-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_valid : Cert.Pre_valid.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_ids_in_range.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S512 : Shape := ⟨1, ![512]⟩
abbrev S512x8 : Shape := ⟨2, ![512, 8]⟩
abbrev S8 : Shape := ⟨1, ![8]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x512 .f32) (main_arg1 : IVec S100000 32) (main_arg2 : FVec F S512x256 .f32) (main_arg3 : FVec F S256 .f32) (main_arg4 : FVec F S256x1 .f32) (main_arg5 : FVec F S1 .f32) (main_arg6 : FVec F S512x512 .f32) (main_arg7 : FVec F S512 .f32) (main_arg8 : FVec F S512x512 .f32) (main_arg9 : FVec F S512 .f32) (main_arg10 : FVec F S512x8 .f32) (main_arg11 : FVec F S8 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_valid.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S512 : Shape := ⟨1, ![512]⟩
abbrev S512x8 : Shape := ⟨2, ![512, 8]⟩
abbrev S8 : Shape := ⟨1, ![8]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_1 : S100000.Slices ![1] S99999
  slices_S100000_S99999_0 : S100000.Slices ![0] S99999
  reducesTo_S99999_S_d0 : S99999.ReducesTo [0] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_
  bcast_S_S512 : S_.BroadcastsInDim S512 (![] : Fin 0 → Fin S512.rank)
  reducesTo_S512_S_d0 : S512.ReducesTo [0] S_
  bcast_S_S8 : S_.BroadcastsInDim S8 (![] : Fin 0 → Fin S8.rank)
  reducesTo_S8_S_d0 : S8.ReducesTo [0] S_
  bcast_S_S100000x512 : S_.BroadcastsInDim S100000x512 (![] : Fin 0 → Fin S100000x512.rank)
  reducesTo_S100000x512_S_d0_1 : S100000x512.ReducesTo [0, 1] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512x512 .f32) (main_v30 : IVec S_ 1) (main_v31 : FVec F S100000x512 .f32) (main_v32 : FVec F S100000x512 .f32) : IVec S_ 1 :=
  let main_v33 : IVec S100000x512 1 := cmpf .olt main_v31 main_v32
  let main_c_13 : IVec S_ 1 := constantI S_ 1 1#1
  let main_v34 : IVec S_ 1 := (fun x v => Host.reduce IntOp.andi x v reducesTo_S100000x512_S_d0_1 h_S_) main_v33 main_c_13
  let main_v35 : IVec S_ 1 := andi main_v30 main_v34
  let main_v36 : FVec F S512x512 .f32 := Host.absf main_arg8
  let main_cst_14 : FVec F S_ .f32 := constant S_ .f32 0x7F800000#32
  let main_v37 : FVec F S512x512 .f32 := broadcastInDim S512x512 ![] bcast_S_S512x512 main_cst_14
  let main_v38 : IVec S512x512 1 := cmpf .olt main_v36 main_v37
  let main_c_15 : IVec S_ 1 := constantI S_ 1 1#1
  let main_v39 : IVec S_ 1 := (fun x v => Host.reduce IntOp.andi x v reducesTo_S512x512_S_d0_1 h_S_) main_v38 main_c_15
  let main_v40 : IVec S_ 1 := andi main_v35 main_v39
  main_v40

def fn_part1 {F : FTy → Type} [FloatOps F] (main_arg0 : FVec F S100000x512 .f32) (main_arg7 : FVec F S512 .f32) (main_arg8 : FVec F S512x512 .f32) (main_arg9 : FVec F S512 .f32) (main_arg11 : FVec F S8 .f32) (main_v14 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v14 main_v17
  let main_cst_6 : FVec F S_ .f32 := constant S_ .f32 0x00000000#32
  let main_v19 : FVec F S512 .f32 := broadcastInDim S512 ![] bcast_S_S512 main_cst_6
  let main_v20 : IVec S512 1 := cmpf .oeq main_arg7 main_v19
  let main_c_7 : IVec S_ 1 := constantI S_ 1 1#1
  let main_v21 : IVec S_ 1 := (fun x v => Host.reduce IntOp.andi x v reducesTo_S512_S_d0 h_S_) main_v20 main_c_7
  let main_v22 : IVec S_ 1 := andi main_v18 main_v21
  let main_cst_8 : FVec F S_ .f32 := constant S_ .f32 0x00000000#32
  let main_v23 : FVec F S512 .f32 := broadcastInDim S512 ![] bcast_S_S512 main_cst_8
  let main_v24 : IVec S512 1 := cmpf .oeq main_arg9 main_v23
  let main_c_9 : IVec S_ 1 := constantI S_ 1 1#1
  let main_v25 : IVec S_ 1 := (fun x v => Host.reduce IntOp.andi x v reducesTo_S512_S_d0 h_S_) main_v24 main_c_9
  let main_v26 : IVec S_ 1 := andi main_v22 main_v25
  let main_cst_10 : FVec F S_ .f32 := constant S_ .f32 0x00000000#32
  let main_v27 : FVec F S8 .f32 := broadcastInDim S8 ![] bcast_S_S8 main_cst_10
  let main_v28 : IVec S8 1 := cmpf .oeq main_arg11 main_v27
  let main_c_11 : IVec S_ 1 := constantI S_ 1 1#1
  let main_v29 : IVec S_ 1 := (fun x v => Host.reduce IntOp.andi x v reducesTo_S8_S_d0 h_S_) main_v28 main_c_11
  let main_v30 : IVec S_ 1 := andi main_v26 main_v29
  let main_v31 : FVec F S100000x512 .f32 := Host.absf main_arg0
  let main_cst_12 : FVec F S_ .f32 := constant S_ .f32 0x7F800000#32
  let main_v32 : FVec F S100000x512 .f32 := broadcastInDim S100000x512 ![] bcast_S_S100000x512 main_cst_12
  fn_part2 (F := F) main_arg8 main_v30 main_v31 main_v32

def fn {F : FTy → Type} [FloatOps F] (main_arg0 : FVec F S100000x512 .f32) (main_arg1 : IVec S100000 32) (main_arg2 : FVec F S512x256 .f32) (main_arg3 : FVec F S256 .f32) (main_arg4 : FVec F S256x1 .f32) (main_arg5 : FVec F S1 .f32) (main_arg6 : FVec F S512x512 .f32) (main_arg7 : FVec F S512 .f32) (main_arg8 : FVec F S512x512 .f32) (main_arg9 : FVec F S512 .f32) (main_arg10 : FVec F S512x8 .f32) (main_arg11 : FVec F S8 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![1] · slices_S100000_S99999_1) main_arg1
  let main_v7 : IVec S99999 32 := (extractStridedSlice S99999 ![0] · slices_S100000_S99999_0) main_arg1
  let main_v8 : IVec S99999 1 := cmpi .sge main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  let main_cst : FVec F S_ .f32 := constant S_ .f32 0x00000000#32
  let main_v11 : FVec F S256 .f32 := broadcastInDim S256 ![] bcast_S_S256 main_cst
  let main_v12 : IVec S256 1 := cmpf .oeq main_arg3 main_v11
  let main_c_3 : IVec S_ 1 := constantI S_ 1 1#1
  let main_v13 : IVec S_ 1 := (fun x v => Host.reduce IntOp.andi x v reducesTo_S256_S_d0 h_S_) main_v12 main_c_3
  let main_v14 : IVec S_ 1 := andi main_v10 main_v13
  let main_cst_4 : FVec F S_ .f32 := constant S_ .f32 0x00000000#32
  let main_v15 : FVec F S1 .f32 := broadcastInDim S1 ![] bcast_S_S1 main_cst_4
  let main_v16 : IVec S1 1 := cmpf .oeq main_arg5 main_v15
  fn_part1 (F := F) main_arg0 main_arg7 main_arg8 main_arg9 main_arg11 main_v14 main_v16
-- ==== Kernel.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S512 : Shape := ⟨1, ![512]⟩
abbrev S512x8 : Shape := ⟨2, ![512, 8]⟩
abbrev S8 : Shape := ⟨1, ![8]⟩
abbrev S25x4000 : Shape := ⟨2, ![25, 4000]⟩
abbrev S25x1x4000 : Shape := ⟨3, ![25, 1, 4000]⟩
abbrev S25x1 : Shape := ⟨2, ![25, 1]⟩
abbrev S25 : Shape := ⟨1, ![25]⟩
abbrev S25x2 : Shape := ⟨2, ![25, 2]⟩
abbrev S512x1280 : Shape := ⟨2, ![512, 1280]⟩
abbrev S1x256 : Shape := ⟨2, ![1, 256]⟩
abbrev S_ : Shape := ⟨0, ![]⟩
abbrev S512x1 : Shape := ⟨2, ![512, 1]⟩
abbrev S1x512 : Shape := ⟨2, ![1, 512]⟩
abbrev S1x512x512 : Shape := ⟨3, ![1, 512, 512]⟩
abbrev S1x512x8 : Shape := ⟨3, ![1, 512, 8]⟩
abbrev S4000x512 : Shape := ⟨2, ![4000, 512]⟩
abbrev S1x1x4000 : Shape := ⟨3, ![1, 1, 4000]⟩
abbrev S4000x1280 : Shape := ⟨2, ![4000, 1280]⟩
abbrev S4000x256 : Shape := ⟨2, ![4000, 256]⟩
abbrev S1x4000 : Shape := ⟨2, ![1, 4000]⟩
abbrev S6x4000 : Shape := ⟨2, ![6, 4000]⟩
abbrev S8x4000 : Shape := ⟨2, ![8, 4000]⟩
abbrev S1x1 : Shape := ⟨2, ![1, 1]⟩
abbrev S32x1 : Shape := ⟨2, ![32, 1]⟩
abbrev S32x4000 : Shape := ⟨2, ![32, 4000]⟩
abbrev S1x32x512 : Shape := ⟨3, ![1, 32, 512]⟩
abbrev S32x512 : Shape := ⟨2, ![32, 512]⟩
abbrev S1x32x8 : Shape := ⟨3, ![1, 32, 8]⟩
abbrev S32x8 : Shape := ⟨2, ![32, 8]⟩
abbrev S512x4000 : Shape := ⟨2, ![512, 4000]⟩
abbrev S5x1x4000 : Shape := ⟨3, ![5, 1, 4000]⟩

abbrev nBuf : Space → Nat
  | .hbm => 36
  | .vmem => 21
  | .smem => 2
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x8, .f32⟩
  | .hbm, ⟨11, _⟩ => ⟨S8, .f32⟩
  | .hbm, ⟨12, _⟩ => ⟨S25x4000, .i32⟩
  | .hbm, ⟨13, _⟩ => ⟨S25x1x4000, .i32⟩
  | .hbm, ⟨14, _⟩ => ⟨S25x1, .i32⟩
  | .hbm, ⟨15, _⟩ => ⟨S25, .i32⟩
  | .hbm, ⟨16, _⟩ => ⟨S25x1, .i32⟩
  | .hbm, ⟨17, _⟩ => ⟨S25, .i32⟩
  | .hbm, ⟨18, _⟩ => ⟨S25x1, .i32⟩
  | .hbm, ⟨19, _⟩ => ⟨S25x1, .i32⟩
  | .hbm, ⟨20, _⟩ => ⟨S25x2, .i32⟩
  | .hbm, ⟨21, _⟩ => ⟨S512x1280, .f32⟩
  | .hbm, ⟨22, _⟩ => ⟨S1x256, .f32⟩
  | .hbm, ⟨23, _⟩ => ⟨S_, .f32⟩
  | .hbm, ⟨24, _⟩ => ⟨S512, .f32⟩
  | .hbm, ⟨25, _⟩ => ⟨S512x1, .f32⟩
  | .hbm, ⟨26, _⟩ => ⟨S_, .f32⟩
  | .hbm, ⟨27, _⟩ => ⟨S512x1, .f32⟩
  | .hbm, ⟨28, _⟩ => ⟨S512x1, .f32⟩
  | .hbm, ⟨29, _⟩ => ⟨S1x512, .f32⟩
  | .hbm, ⟨30, _⟩ => ⟨S1x512x512, .f32⟩
  | .hbm, ⟨31, _⟩ => ⟨S1x512x8, .f32⟩
  | .hbm, ⟨32, _⟩ => ⟨S25x1x4000, .f32⟩
  | .hbm, ⟨33, _⟩ => ⟨S512x512, .f32⟩
  | .hbm, ⟨34, _⟩ => ⟨S25x1x4000, .f32⟩
  | .hbm, ⟨35, _⟩ => ⟨S100000, .f32⟩
  | .local _ .vmem, ⟨0, _⟩ => ⟨S4000x512, .f32⟩
  | .local _ .vmem, ⟨1, _⟩ => ⟨S4000x512, .f32⟩
  | .local _ .vmem, ⟨2, _⟩ => ⟨S1x1x4000, .i32⟩
  | .local _ .vmem, ⟨3, _⟩ => ⟨S1x1x4000, .i32⟩
  | .local _ .vmem, ⟨4, _⟩ => ⟨S512x1280, .f32⟩
  | .local _ .vmem, ⟨5, _⟩ => ⟨S1x256, .f32⟩
  | .local _ .vmem, ⟨6, _⟩ => ⟨S1x512, .f32⟩
  | .local _ .vmem, ⟨7, _⟩ => ⟨S1x512x512, .f32⟩
  | .local _ .vmem, ⟨8, _⟩ => ⟨S1x512x8, .f32⟩
  | .local _ .vmem, ⟨9, _⟩ => ⟨S1x1x4000, .f32⟩
  | .local _ .vmem, ⟨10, _⟩ => ⟨S1x1x4000, .f32⟩
  | .local _ .vmem, ⟨11, _⟩ => ⟨S1x512x512, .f32⟩
  | .local _ .vmem, ⟨12, _⟩ => ⟨S1x512x8, .f32⟩
  | .local _ .vmem, ⟨13, _⟩ => ⟨S5x1x4000, .f32⟩
  | .local _ .vmem, ⟨14, _⟩ => ⟨S5x1x4000, .f32⟩
  | .local _ .vmem, ⟨15, _⟩ => ⟨S5x1x4000, .i32⟩
  | .local _ .vmem, ⟨16, _⟩ => ⟨S5x1x4000, .i32⟩
  | .local _ .vmem, ⟨17, _⟩ => ⟨S512x512, .f32⟩
  | .local _ .vmem, ⟨18, _⟩ => ⟨S5x1x4000, .f32⟩
  | .local _ .vmem, ⟨19, _⟩ => ⟨S5x1x4000, .f32⟩
  | .local _ .vmem, ⟨20, _⟩ => ⟨S512x1, .f32⟩
  | .local _ .smem, ⟨0, _⟩ => ⟨S25x2, .i32⟩
  | .local _ .smem, ⟨1, _⟩ => ⟨S25x2, .i32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v17_0 : Ref sig .tc := ⟨.hbm, 33, rfl⟩
abbrev main_v17_1 : Ref sig .tc := ⟨.hbm, 34, rfl⟩
abbrev main_v18 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![1, 25], ![false, false]⟩

def k0_off1 (i : grid0.Coords) : Fin 2 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v28 : Index := Scalar.indexCast v1
  let c0_18 : Index := 0#32
  ![v28.toNat, 0]
def k0_off2 (i : grid0.Coords) : Fin 2 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v30 : Index := Scalar.indexCast v1
  let c1 : Index := 1#32
  ![v30.toNat, 1]
def k0_mult1 (v29 : BitVec 32) : BitVec 32 :=
  let c480_i32 : BitVec 32 := 480#32
  let v32 : BitVec 32 := Scalar.minsi v29 c480_i32
  let c3_i32 : BitVec 32 := 3#32
  let v33 : BitVec 32 := Scalar.shrsi v32 c3_i32
  let c3_i32_19 : BitVec 32 := 3#32
  let v34 : BitVec 32 := Scalar.shli v33 c3_i32_19
  v34

def k0_chk1 (v29 : BitVec 32) : Prop :=
  (8 ∣ (k0_mult1 v29).toNat)
theorem k0_mult1_dvd : ∀ (v29 : BitVec 32) (k0_hw1 : k0_chk1 v29), 8 ∣ (k0_mult1 v29).toNat := fun v29 k0_hw1 => k0_hw1

def k0_off3 (v29 : BitVec 32) : Fin 3 → Nat :=
  let c0_24 : Index := 0#32
  let c480_i32 : BitVec 32 := 480#32
  let v32 : BitVec 32 := Scalar.minsi v29 c480_i32
  let c3_i32 : BitVec 32 := 3#32
  let v33 : BitVec 32 := Scalar.shrsi v32 c3_i32
  let c3_i32_19 : BitVec 32 := 3#32
  let v34 : BitVec 32 := Scalar.shli v33 c3_i32_19
  let v35 : BitVec 32 := v34
  let v54 : Index := Scalar.indexCast v35
  let c0_25 : Index := 0#32
  ![0, v54.toNat, 0]
def k0_cond2 (v29 : BitVec 32) (v31 : BitVec 32) : BitVec 1 :=
  let c480_i32 : BitVec 32 := 480#32
  let v32 : BitVec 32 := Scalar.minsi v29 c480_i32
  let c3_i32 : BitVec 32 := 3#32
  let v33 : BitVec 32 := Scalar.shrsi v32 c3_i32
  let c3_i32_19 : BitVec 32 := 3#32
  let v34 : BitVec 32 := Scalar.shli v33 c3_i32_19
  let v35 : BitVec 32 := v34
  let v36 : BitVec 32 := Scalar.subi v31 v35
  let c32_i32 : BitVec 32 := 32#32
  let v37 : BitVec 1 := Scalar.cmpi .slt v36 c32_i32
  let v38 : BitVec 32 := Scalar.extui v37
  let c0_i32_20 : BitVec 32 := 0#32
  let v39 : BitVec 1 := Scalar.cmpi .ne v38 c0_i32_20
  v39

def k0_off4 (v29 : BitVec 32) : Fin 3 → Nat :=
  let c0_29 : Index := 0#32
  let c480_i32 : BitVec 32 := 480#32
  let v32 : BitVec 32 := Scalar.minsi v29 c480_i32
  let c3_i32 : BitVec 32 := 3#32
  let v33 : BitVec 32 := Scalar.shrsi v32 c3_i32
  let c3_i32_19 : BitVec 32 := 3#32
  let v34 : BitVec 32 := Scalar.shli v33 c3_i32_19
  let v35 : BitVec 32 := v34
  let v63 : Index := Scalar.indexCast v35
  let c0_30 : Index := 0#32
  ![0, v63.toNat, 0]

def k0_chk2 (v29 : BitVec 32) (v31 : BitVec 32) : Prop :=
  (∀ (k0_h2 : k0_cond2 v29 v31 = 1#1), ∀ a, (k0_off3 v29) a + S1x32x512.size a ≤ S1x512x512.size a) ∧
  (∀ (k0_h2 : k0_cond2 v29 v31 = 1#1), ∀ a, (k0_off4 v29) a + S1x32x8.size a ≤ S1x512x8.size a)
theorem k0_off3_inb : ∀ (v29 : BitVec 32) (v31 : BitVec 32) (k0_hw2 : k0_chk2 v29 v31), ∀ (k0_h2 : k0_cond2 v29 v31 = 1#1), ∀ a, (k0_off3 v29) a + S1x32x512.size a ≤ S1x512x512.size a := fun v29 v31 k0_hw2 k0_h2 => k0_hw2.1 k0_h2
theorem k0_off4_inb : ∀ (v29 : BitVec 32) (v31 : BitVec 32) (k0_hw2 : k0_chk2 v29 v31), ∀ (k0_h2 : k0_cond2 v29 v31 = 1#1), ∀ a, (k0_off4 v29) a + S1x32x8.size a ≤ S1x512x8.size a := fun v29 v31 k0_hw2 k0_h2 => k0_hw2.2 k0_h2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .smem S25x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x512x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1x1x4000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨1, ![5], ![false]⟩

def k1_off1 (i : grid1.Coords) : Fin 2 → Nat :=
  let arg0 : BitVec 32 := BitVec.ofNat 32 (i 0).val
  let c5_i32 : BitVec 32 := 5#32
  let v3 : BitVec 32 := Scalar.muli arg0 c5_i32
  let c0_i32_1 : BitVec 32 := 0#32
  let v4 : BitVec 32 := Scalar.addi v3 c0_i32_1
  let v5 : Index := Scalar.indexCast v4
  let c0 : Index := 0#32
  ![v5.toNat, 0]
def k1_off2 (i : grid1.Coords) : Fin 2 → Nat :=
  let arg0 : BitVec 32 := BitVec.ofNat 32 (i 0).val
  let c5_i32_2 : BitVec 32 := 5#32
  let v7 : BitVec 32 := Scalar.muli arg0 c5_i32_2
  let c0_i32_3 : BitVec 32 := 0#32
  let v8 : BitVec 32 := Scalar.addi v7 c0_i32_3
  let v9 : Index := Scalar.indexCast v8
  let c1 : Index := 1#32
  ![v9.toNat, 1]
def k1_mult1 (v6 : BitVec 32) : BitVec 32 :=
  let c480_i32 : BitVec 32 := 480#32
  let v11 : BitVec 32 := Scalar.minsi v6 c480_i32
  let c3_i32 : BitVec 32 := 3#32
  let v12 : BitVec 32 := Scalar.shrsi v11 c3_i32
  let c3_i32_4 : BitVec 32 := 3#32
  let v13 : BitVec 32 := Scalar.shli v12 c3_i32_4
  v13

def k1_chk1 (v6 : BitVec 32) : Prop :=
  (8 ∣ (k1_mult1 v6).toNat)
theorem k1_mult1_dvd : ∀ (v6 : BitVec 32) (k1_hw1 : k1_chk1 v6), 8 ∣ (k1_mult1 v6).toNat := fun v6 k1_hw1 => k1_hw1

def k1_off3 (v6 : BitVec 32) : Fin 2 → Nat :=
  let c480_i32 : BitVec 32 := 480#32
  let v11 : BitVec 32 := Scalar.minsi v6 c480_i32
  let c3_i32 : BitVec 32 := 3#32
  let v12 : BitVec 32 := Scalar.shrsi v11 c3_i32
  let c3_i32_4 : BitVec 32 := 3#32
  let v13 : BitVec 32 := Scalar.shli v12 c3_i32_4
  let v14 : BitVec 32 := v13
  let v127 : Index := Scalar.indexCast v14
  let c0_84 : Index := 0#32
  ![v127.toNat, 0]
def k1_cond2 (v6 : BitVec 32) (v10 : BitVec 32) : BitVec 1 :=
  let c480_i32 : BitVec 32 := 480#32
  let v11 : BitVec 32 := Scalar.minsi v6 c480_i32
  let c3_i32 : BitVec 32 := 3#32
  let v12 : BitVec 32 := Scalar.shrsi v11 c3_i32
  let c3_i32_4 : BitVec 32 := 3#32
  let v13 : BitVec 32 := Scalar.shli v12 c3_i32_4
  let v14 : BitVec 32 := v13
  let v15 : BitVec 32 := Scalar.subi v10 v14
  let c32_i32 : BitVec 32 := 32#32
  let v16 : BitVec 1 := Scalar.cmpi .slt v15 c32_i32
  let v21 : BitVec 32 := Scalar.extui v16
  let c0_i32_11 : BitVec 32 := 0#32
  let v22 : BitVec 1 := Scalar.cmpi .ne v21 c0_i32_11
  v22

def k1_chk2 (v6 : BitVec 32) (v10 : BitVec 32) : Prop :=
  (∀ (k1_h2 : k1_cond2 v6 v10 = 1#1), ∀ a, (k1_off3 v6) a + S32x1.size a ≤ S512x1.size a)
theorem k1_off3_inb : ∀ (v6 : BitVec 32) (v10 : BitVec 32) (k1_hw2 : k1_chk2 v6 v10), ∀ (k1_h2 : k1_cond2 v6 v10 = 1#1), ∀ a, (k1_off3 v6) a + S32x1.size a ≤ S512x1.size a := fun v6 v10 k1_hw2 k1_h2 => k1_hw2 k1_h2

def k1_off4 (i : grid1.Coords) : Fin 2 → Nat :=
  let arg0 : BitVec 32 := BitVec.ofNat 32 (i 0).val
  let c5_i32_13 : BitVec 32 := 5#32
  let v26 : BitVec 32 := Scalar.muli arg0 c5_i32_13
  let c1_i32 : BitVec 32 := 1#32
  let v27 : BitVec 32 := Scalar.addi v26 c1_i32
  let v28 : Index := Scalar.indexCast v27
  let c0_14 : Index := 0#32
  ![v28.toNat, 0]
def k1_off5 (i : grid1.Coords) : Fin 2 → Nat :=
  let arg0 : BitVec 32 := BitVec.ofNat 32 (i 0).val
  let c5_i32_15 : BitVec 32 := 5#32
  let v30 : BitVec 32 := Scalar.muli arg0 c5_i32_15
  let c1_i32_16 : BitVec 32 := 1#32
  let v31 : BitVec 32 := Scalar.addi v30 c1_i32_16
  let v32 : Index := Scalar.indexCast v31
  let c1_17 : Index := 1#32
  ![v32.toNat, 1]
def k1_mult2 (v29 : BitVec 32) : BitVec 32 :=
  let c480_i32_18 : BitVec 32 := 480#32
  let v34 : BitVec 32 := Scalar.minsi v29 c480_i32_18
  let c3_i32_19 : BitVec 32 := 3#32
  let v35 : BitVec 32 := Scalar.shrsi v34 c3_i32_19
  let c3_i32_20 : BitVec 32 := 3#32
  let v36 : BitVec 32 := Scalar.shli v35 c3_i32_20
  v36

def k1_chk3 (v29 : BitVec 32) : Prop :=
  (8 ∣ (k1_mult2 v29).toNat)
theorem k1_mult2_dvd : ∀ (v29 : BitVec 32) (k1_hw3 : k1_chk3 v29), 8 ∣ (k1_mult2 v29).toNat := fun v29 k1_hw3 => k1_hw3

def k1_off6 (v29 : BitVec 32) : Fin 2 → Nat :=
  let c480_i32_18 : BitVec 32 := 480#32
  let v34 : BitVec 32 := Scalar.minsi v29 c480_i32_18
  let c3_i32_19 : BitVec 32 := 3#32
  let v35 : BitVec 32 := Scalar.shrsi v34 c3_i32_19
  let c3_i32_20 : BitVec 32 := 3#32
  let v36 : BitVec 32 := Scalar.shli v35 c3_i32_20
  let v37 : BitVec 32 := v36
  let v127 : Index := Scalar.indexCast v37
  let c0_84 : Index := 0#32
  ![v127.toNat, 0]
def k1_cond4 (v29 : BitVec 32) (v33 : BitVec 32) : BitVec 1 :=
  let c480_i32_18 : BitVec 32 := 480#32
  let v34 : BitVec 32 := Scalar.minsi v29 c480_i32_18
  let c3_i32_19 : BitVec 32 := 3#32
  let v35 : BitVec 32 := Scalar.shrsi v34 c3_i32_19
  let c3_i32_20 : BitVec 32 := 3#32
  let v36 : BitVec 32 := Scalar.shli v35 c3_i32_20
  let v37 : BitVec 32 := v36
  let v38 : BitVec 32 := Scalar.subi v33 v37
  let c32_i32_21 : BitVec 32 := 32#32
  let v39 : BitVec 1 := Scalar.cmpi .slt v38 c32_i32_21
  let v44 : BitVec 32 := Scalar.extui v39
  let c0_i32_28 : BitVec 32 := 0#32
  let v45 : BitVec 1 := Scalar.cmpi .ne v44 c0_i32_28
  v45

def k1_chk4 (v29 : BitVec 32) (v33 : BitVec 32) : Prop :=
  (∀ (k1_h4 : k1_cond4 v29 v33 = 1#1), ∀ a, (k1_off6 v29) a + S32x1.size a ≤ S512x1.size a)
theorem k1_off6_inb : ∀ (v29 : BitVec 32) (v33 : BitVec 32) (k1_hw4 : k1_chk4 v29 v33), ∀ (k1_h4 : k1_cond4 v29 v33 = 1#1), ∀ a, (k1_off6 v29) a + S32x1.size a ≤ S512x1.size a := fun v29 v33 k1_hw4 k1_h4 => k1_hw4 k1_h4

def k1_off7 (i : grid1.Coords) : Fin 2 → Nat :=
  let arg0 : BitVec 32 := BitVec.ofNat 32 (i 0).val
  let c5_i32_31 : BitVec 32 := 5#32
  let v49 : BitVec 32 := Scalar.muli arg0 c5_i32_31
  let c2_i32 : BitVec 32 := 2#32
  let v50 : BitVec 32 := Scalar.addi v49 c2_i32
  let v51 : Index := Scalar.indexCast v50
  let c0_32 : Index := 0#32
  ![v51.toNat, 0]
def k1_off8 (i : grid1.Coords) : Fin 2 → Nat :=
  let arg0 : BitVec 32 := BitVec.ofNat 32 (i 0).val
  let c5_i32_33 : BitVec 32 := 5#32
  let v53 : BitVec 32 := Scalar.muli arg0 c5_i32_33
  let c2_i32_34 : BitVec 32 := 2#32
  let v54 : BitVec 32 := Scalar.addi v53 c2_i32_34
  let v55 : Index := Scalar.indexCast v54
  let c1_35 : Index := 1#32
  ![v55.toNat, 1]
def k1_mult3 (v52 : BitVec 32) : BitVec 32 :=
  let c480_i32_36 : BitVec 32 := 480#32
  let v57 : BitVec 32 := Scalar.minsi v52 c480_i32_36
  let c3_i32_37 : BitVec 32 := 3#32
  let v58 : BitVec 32 := Scalar.shrsi v57 c3_i32_37
  let c3_i32_38 : BitVec 32 := 3#32
  let v59 : BitVec 32 := Scalar.shli v58 c3_i32_38
  v59

def k1_chk5 (v52 : BitVec 32) : Prop :=
  (8 ∣ (k1_mult3 v52).toNat)
theorem k1_mult3_dvd : ∀ (v52 : BitVec 32) (k1_hw5 : k1_chk5 v52), 8 ∣ (k1_mult3 v52).toNat := fun v52 k1_hw5 => k1_hw5

def k1_off9 (v52 : BitVec 32) : Fin 2 → Nat :=
  let c480_i32_36 : BitVec 32 := 480#32
  let v57 : BitVec 32 := Scalar.minsi v52 c480_i32_36
  let c3_i32_37 : BitVec 32 := 3#32
  let v58 : BitVec 32 := Scalar.shrsi v57 c3_i32_37
  let c3_i32_38 : BitVec 32 := 3#32
  let v59 : BitVec 32 := Scalar.shli v58 c3_i32_38
  let v60 : BitVec 32 := v59
  let v127 : Index := Scalar.indexCast v60
  let c0_84 : Index := 0#32
  ![v127.toNat, 0]
def k1_cond6 (v52 : BitVec 32) (v56 : BitVec 32) : BitVec 1 :=
  let c480_i32_36 : BitVec 32 := 480#32
  let v57 : BitVec 32 := Scalar.minsi v52 c480_i32_36
  let c3_i32_37 : BitVec 32 := 3#32
  let v58 : BitVec 32 := Scalar.shrsi v57 c3_i32_37
  let c3_i32_38 : BitVec 32 := 3#32
  let v59 : BitVec 32 := Scalar.shli v58 c3_i32_38
  let v60 : BitVec 32 := v59
  let v61 : BitVec 32 := Scalar.subi v56 v60
  let c32_i32_39 : BitVec 32 := 32#32
  let v62 : BitVec 1 := Scalar.cmpi .slt v61 c32_i32_39
  let v67 : BitVec 32 := Scalar.extui v62
  let c0_i32_45 : BitVec 32 := 0#32
  let v68 : BitVec 1 := Scalar.cmpi .ne v67 c0_i32_45
  v68

def k1_chk6 (v52 : BitVec 32) (v56 : BitVec 32) : Prop :=
  (∀ (k1_h6 : k1_cond6 v52 v56 = 1#1), ∀ a, (k1_off9 v52) a + S32x1.size a ≤ S512x1.size a)
theorem k1_off9_inb : ∀ (v52 : BitVec 32) (v56 : BitVec 32) (k1_hw6 : k1_chk6 v52 v56), ∀ (k1_h6 : k1_cond6 v52 v56 = 1#1), ∀ a, (k1_off9 v52) a + S32x1.size a ≤ S512x1.size a := fun v52 v56 k1_hw6 k1_h6 => k1_hw6 k1_h6

def k1_off10 (i : grid1.Coords) : Fin 2 → Nat :=
  let arg0 : BitVec 32 := BitVec.ofNat 32 (i 0).val
  let c5_i32_48 : BitVec 32 := 5#32
  let v72 : BitVec 32 := Scalar.muli arg0 c5_i32_48
  let c3_i32_49 : BitVec 32 := 3#32
  let v73 : BitVec 32 := Scalar.addi v72 c3_i32_49
  let v74 : Index := Scalar.indexCast v73
  let c0_50 : Index := 0#32
  ![v74.toNat, 0]
def k1_off11 (i : grid1.Coords) : Fin 2 → Nat :=
  let arg0 : BitVec 32 := BitVec.ofNat 32 (i 0).val
  let c5_i32_51 : BitVec 32 := 5#32
  let v76 : BitVec 32 := Scalar.muli arg0 c5_i32_51
  let c3_i32_52 : BitVec 32 := 3#32
  let v77 : BitVec 32 := Scalar.addi v76 c3_i32_52
  let v78 : Index := Scalar.indexCast v77
  let c1_53 : Index := 1#32
  ![v78.toNat, 1]
def k1_mult4 (v75 : BitVec 32) : BitVec 32 :=
  let c480_i32_54 : BitVec 32 := 480#32
  let v80 : BitVec 32 := Scalar.minsi v75 c480_i32_54
  let c3_i32_55 : BitVec 32 := 3#32
  let v81 : BitVec 32 := Scalar.shrsi v80 c3_i32_55
  let c3_i32_56 : BitVec 32 := 3#32
  let v82 : BitVec 32 := Scalar.shli v81 c3_i32_56
  v82

def k1_chk7 (v75 : BitVec 32) : Prop :=
  (8 ∣ (k1_mult4 v75).toNat)
theorem k1_mult4_dvd : ∀ (v75 : BitVec 32) (k1_hw7 : k1_chk7 v75), 8 ∣ (k1_mult4 v75).toNat := fun v75 k1_hw7 => k1_hw7

def k1_off12 (v75 : BitVec 32) : Fin 2 → Nat :=
  let c480_i32_54 : BitVec 32 := 480#32
  let v80 : BitVec 32 := Scalar.minsi v75 c480_i32_54
  let c3_i32_55 : BitVec 32 := 3#32
  let v81 : BitVec 32 := Scalar.shrsi v80 c3_i32_55
  let c3_i32_56 : BitVec 32 := 3#32
  let v82 : BitVec 32 := Scalar.shli v81 c3_i32_56
  let v83 : BitVec 32 := v82
  let v127 : Index := Scalar.indexCast v83
  let c0_84 : Index := 0#32
  ![v127.toNat, 0]
def k1_cond8 (v75 : BitVec 32) (v79 : BitVec 32) : BitVec 1 :=
  let c480_i32_54 : BitVec 32 := 480#32
  let v80 : BitVec 32 := Scalar.minsi v75 c480_i32_54
  let c3_i32_55 : BitVec 32 := 3#32
  let v81 : BitVec 32 := Scalar.shrsi v80 c3_i32_55
  let c3_i32_56 : BitVec 32 := 3#32
  let v82 : BitVec 32 := Scalar.shli v81 c3_i32_56
  let v83 : BitVec 32 := v82
  let v84 : BitVec 32 := Scalar.subi v79 v83
  let c32_i32_57 : BitVec 32 := 32#32
  let v85 : BitVec 1 := Scalar.cmpi .slt v84 c32_i32_57
  let v90 : BitVec 32 := Scalar.extui v85
  let c0_i32_63 : BitVec 32 := 0#32
  let v91 : BitVec 1 := Scalar.cmpi .ne v90 c0_i32_63
  v91

def k1_chk8 (v75 : BitVec 32) (v79 : BitVec 32) : Prop :=
  (∀ (k1_h8 : k1_cond8 v75 v79 = 1#1), ∀ a, (k1_off12 v75) a + S32x1.size a ≤ S512x1.size a)
theorem k1_off12_inb : ∀ (v75 : BitVec 32) (v79 : BitVec 32) (k1_hw8 : k1_chk8 v75 v79), ∀ (k1_h8 : k1_cond8 v75 v79 = 1#1), ∀ a, (k1_off12 v75) a + S32x1.size a ≤ S512x1.size a := fun v75 v79 k1_hw8 k1_h8 => k1_hw8 k1_h8

def k1_off13 (i : grid1.Coords) : Fin 2 → Nat :=
  let arg0 : BitVec 32 := BitVec.ofNat 32 (i 0).val
  let c5_i32_66 : BitVec 32 := 5#32
  let v95 : BitVec 32 := Scalar.muli arg0 c5_i32_66
  let c4_i32 : BitVec 32 := 4#32
  let v96 : BitVec 32 := Scalar.addi v95 c4_i32
  let v97 : Index := Scalar.indexCast v96
  let c0_67 : Index := 0#32
  ![v97.toNat, 0]
def k1_off14 (i : grid1.Coords) : Fin 2 → Nat :=
  let arg0 : BitVec 32 := BitVec.ofNat 32 (i 0).val
  let c5_i32_68 : BitVec 32 := 5#32
  let v99 : BitVec 32 := Scalar.muli arg0 c5_i32_68
  let c4_i32_69 : BitVec 32 := 4#32
  let v100 : BitVec 32 := Scalar.addi v99 c4_i32_69
  let v101 : Index := Scalar.indexCast v100
  let c1_70 : Index := 1#32
  ![v101.toNat, 1]
def k1_mult5 (v98 : BitVec 32) : BitVec 32 :=
  let c480_i32_71 : BitVec 32 := 480#32
  let v103 : BitVec 32 := Scalar.minsi v98 c480_i32_71
  let c3_i32_72 : BitVec 32 := 3#32
  let v104 : BitVec 32 := Scalar.shrsi v103 c3_i32_72
  let c3_i32_73 : BitVec 32 := 3#32
  let v105 : BitVec 32 := Scalar.shli v104 c3_i32_73
  v105

def k1_chk9 (v98 : BitVec 32) : Prop :=
  (8 ∣ (k1_mult5 v98).toNat)
theorem k1_mult5_dvd : ∀ (v98 : BitVec 32) (k1_hw9 : k1_chk9 v98), 8 ∣ (k1_mult5 v98).toNat := fun v98 k1_hw9 => k1_hw9

def k1_off15 (v98 : BitVec 32) : Fin 2 → Nat :=
  let c480_i32_71 : BitVec 32 := 480#32
  let v103 : BitVec 32 := Scalar.minsi v98 c480_i32_71
  let c3_i32_72 : BitVec 32 := 3#32
  let v104 : BitVec 32 := Scalar.shrsi v103 c3_i32_72
  let c3_i32_73 : BitVec 32 := 3#32
  let v105 : BitVec 32 := Scalar.shli v104 c3_i32_73
  let v106 : BitVec 32 := v105
  let v127 : Index := Scalar.indexCast v106
  let c0_84 : Index := 0#32
  ![v127.toNat, 0]
def k1_cond10 (v98 : BitVec 32) (v102 : BitVec 32) : BitVec 1 :=
  let c480_i32_71 : BitVec 32 := 480#32
  let v103 : BitVec 32 := Scalar.minsi v98 c480_i32_71
  let c3_i32_72 : BitVec 32 := 3#32
  let v104 : BitVec 32 := Scalar.shrsi v103 c3_i32_72
  let c3_i32_73 : BitVec 32 := 3#32
  let v105 : BitVec 32 := Scalar.shli v104 c3_i32_73
  let v106 : BitVec 32 := v105
  let v107 : BitVec 32 := Scalar.subi v102 v106
  let c32_i32_74 : BitVec 32 := 32#32
  let v108 : BitVec 1 := Scalar.cmpi .slt v107 c32_i32_74
  let v113 : BitVec 32 := Scalar.extui v108
  let c0_i32_80 : BitVec 32 := 0#32
  let v114 : BitVec 1 := Scalar.cmpi .ne v113 c0_i32_80
  v114

def k1_chk10 (v98 : BitVec 32) (v102 : BitVec 32) : Prop :=
  (∀ (k1_h10 : k1_cond10 v98 v102 = 1#1), ∀ a, (k1_off15 v98) a + S32x1.size a ≤ S512x1.size a)
theorem k1_off15_inb : ∀ (v98 : BitVec 32) (v102 : BitVec 32) (k1_hw10 : k1_chk10 v98 v102), ∀ (k1_h10 : k1_cond10 v98 v102 = 1#1), ∀ a, (k1_off15 v98) a + S32x1.size a ≤ S512x1.size a := fun v98 v102 k1_hw10 k1_h10 => k1_hw10 k1_h10

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S25x2 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5x1x4000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5x1x4000 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5x1x4000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S512 : Shape := ⟨1, ![512]⟩
abbrev S512x8 : Shape := ⟨2, ![512, 8]⟩
abbrev S8 : Shape := ⟨1, ![8]⟩
abbrev S100000x256 : Shape := ⟨2, ![100000, 256]⟩
abbrev S1x256 : Shape := ⟨2, ![1, 256]⟩
abbrev S_ : Shape := ⟨0, ![]⟩
abbrev S100000x1 : Shape := ⟨2, ![100000, 1]⟩
abbrev S1x1 : Shape := ⟨2, ![1, 1]⟩
abbrev S1x512 : Shape := ⟨2, ![1, 512]⟩
abbrev S100000x8 : Shape := ⟨2, ![100000, 8]⟩
abbrev S1x8 : Shape := ⟨2, ![1, 8]⟩

abbrev nBuf : Space → Nat
  | .hbm => 90
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x8, .f32⟩
  | .hbm, ⟨11, _⟩ => ⟨S8, .f32⟩
  | .hbm, ⟨12, _⟩ => ⟨S100000x256, .f32⟩
  | .hbm, ⟨13, _⟩ => ⟨S1x256, .f32⟩
  | .hbm, ⟨14, _⟩ => ⟨S100000x256, .f32⟩
  | .hbm, ⟨15, _⟩ => ⟨S100000x256, .f32⟩
  | .hbm, ⟨16, _⟩ => ⟨S_, .f32⟩
  | .hbm, ⟨17, _⟩ => ⟨S100000x256, .f32⟩
  | .hbm, ⟨18, _⟩ => ⟨S100000x256, .f32⟩
  | .hbm, ⟨19, _⟩ => ⟨S100000x1, .f32⟩
  | .hbm, ⟨20, _⟩ => ⟨S1x1, .f32⟩
  | .hbm, ⟨21, _⟩ => ⟨S100000x1, .f32⟩
  | .hbm, ⟨22, _⟩ => ⟨S100000x1, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S512, .f32⟩
  | .hbm, ⟨27, _⟩ => ⟨S100000x1, .i32⟩
  | .hbm, ⟨28, _⟩ => ⟨S512, .f32⟩
  | .hbm, ⟨29, _⟩ => ⟨S_, .i32⟩
  | .hbm, ⟨30, _⟩ => ⟨S100000, .i32⟩
  | .hbm, ⟨31, _⟩ => ⟨S100000, .i1⟩
  | .hbm, ⟨32, _⟩ => ⟨S_, .i32⟩
  | .hbm, ⟨33, _⟩ => ⟨S100000, .i32⟩
  | .hbm, ⟨34, _⟩ => ⟨S100000, .i32⟩
  | .hbm, ⟨35, _⟩ => ⟨S100000, .i32⟩
  | .hbm, ⟨36, _⟩ => ⟨S100000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000, .f32⟩
  | .hbm, ⟨42, _⟩ => ⟨S100000x512, .f32⟩
  | .hbm, ⟨43, _⟩ => ⟨S1x512, .f32⟩
  | .hbm, ⟨44, _⟩ => ⟨S100000x512, .f32⟩
  | .hbm, ⟨45, _⟩ => ⟨S100000x512, .f32⟩
  | .hbm, ⟨46, _⟩ => ⟨S_, .f32⟩
  | .hbm, ⟨47, _⟩ => ⟨S100000x512, .f32⟩
  | .hbm, ⟨48, _⟩ => ⟨S100000x512, .f32⟩
  | .hbm, ⟨49, _⟩ => ⟨S100000x1, .f32⟩
  | .hbm, ⟨50, _⟩ => ⟨S100000x512, .f32⟩
  | .hbm, ⟨51, _⟩ => ⟨S100000x512, .f32⟩
  | .hbm, ⟨52, _⟩ => ⟨S_, .f32⟩
  | .hbm, ⟨53, _⟩ => ⟨S512x512, .f32⟩
  | .hbm, ⟨54, _⟩ => ⟨S100000x1, .i32⟩
  | .hbm, ⟨55, _⟩ => ⟨S512x512, .f32⟩
  | .hbm, ⟨56, _⟩ => ⟨S100000x512, .f32⟩
  | .hbm, ⟨57, _⟩ => ⟨S1x512, .f32⟩
  | .hbm, ⟨58, _⟩ => ⟨S100000x512, .f32⟩
  | .hbm, ⟨59, _⟩ => ⟨S100000x512, .f32⟩
  | .hbm, ⟨60, _⟩ => ⟨S_, .f32⟩
  | .hbm, ⟨61, _⟩ => ⟨S100000x512, .f32⟩
  | .hbm, ⟨62, _⟩ => ⟨S100000x512, .f32⟩
  | .hbm, ⟨63, _⟩ => ⟨S100000x8, .f32⟩
  | .hbm, ⟨64, _⟩ => ⟨S1x8, .f32⟩
  | .hbm, ⟨65, _⟩ => ⟨S100000x8, .f32⟩
  | .hbm, ⟨66, _⟩ => ⟨S100000x8, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S_, .f32⟩
  | .hbm, ⟨74, _⟩ => ⟨S512, .f32⟩
  | .hbm, ⟨75, _⟩ => ⟨S100000x1, .i32⟩
  | .hbm, ⟨76, _⟩ => ⟨S512, .f32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_cst : Ref sig .tc := ⟨.hbm, 60, rfl⟩
abbrev main_call2_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_6 : Ref sig .tc := ⟨.hbm, 77, rfl⟩
abbrev main_v51 : Ref sig .tc := ⟨.hbm, 78, rfl⟩
abbrev main_v52 : Ref sig .tc := ⟨.hbm, 79, rfl⟩
abbrev main_c_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Proof.Body0.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's first test, on the point's number along the second grid axis: is this the first point? -/
abbrev isFirst0 (i : grid0.Coords) : Prop :=
  Scalar.cmpi .ne (Scalar.extui (Scalar.cmpi .eq (BitVec.ofNat 32 (i 1).val) 0#32)) 0#32 = 1#1

/-- The first segment number of the point's block, as the body reads it from the table of limits. -/
abbrev firstId0 (i : grid0.Coords) (lim : S25x2.Idx → BitVec 32) : BitVec 32 :=
  VecWindow.window lim (k0_off1 i) S1x1.size (k0_off1_inb i) (Shape.Idx.first (numel1_S1x1.symm ▸ Nat.one_pos))
/-- The last segment number of the point's block. -/
abbrev lastId0 (i : grid0.Coords) (lim : S25x2.Idx → BitVec 32) : BitVec 32 :=
  VecWindow.window lim (k0_off2 i) S1x1.size (k0_off2_inb i) (Shape.Idx.first (numel1_S1x1.symm ▸ Nat.one_pos))

/-- Does the block fit the narrow window of 32 segments? -/
abbrev narrow0 (f l : BitVec 32) : Prop := k0_chk2 f l ∧ k0_cond2 f l = 1#1

/-- The point's update of the accumulated rows: the narrow window changed, or the whole array. -/
def step8 (f l : BitVec 32) (x : S4000x512.Idx → F .f32) (b : S1x1x4000.Idx → BitVec 32) (wc : S512x1280.Idx → F .f32)
    (w2 : S1x256.Idx → F .f32) (a : S1x512x512.Idx → F .f32) : S1x512x512.Idx → F .f32 :=
  if h : narrow0 f l then
    VecWindow.put a (k0_off3 f) S1x32x512.size
      (k0_pay2 (k0_pay10 x wc) (k0_pay11 x wc w2) (k0_pay15 (F := F) b) f (VecWindow.window a (k0_off3 f) S1x32x512.size (h.1.1 h.2)))
  else k0_pay5 (k0_pay10 x wc) (k0_pay11 x wc w2) (k0_pay15 (F := F) b) a

/-- The point's update of the accumulated denominators. -/
def step9 (f l : BitVec 32) (x : S4000x512.Idx → F .f32) (b : S1x1x4000.Idx → BitVec 32) (wc : S512x1280.Idx → F .f32)
    (w2 : S1x256.Idx → F .f32) (g2 : S1x512.Idx → F .f32) (a : S1x512x8.Idx → F .f32) : S1x512x8.Idx → F .f32 :=
  if h : narrow0 f l then
    VecWindow.put a (k0_off4 f) S1x32x8.size
      (k0_pay3 (k0_pay14 x wc w2 g2) (k0_pay15 (F := F) b) f (VecWindow.window a (k0_off4 f) S1x32x8.size (h.1.2 h.2)))
  else k0_pay6 (k0_pay14 x wc w2 g2) (k0_pay15 (F := F) b) a

/-- The condition under which the body takes the wide update. -/
abbrev wide0 (f l : BitVec 32) : Prop :=
  Scalar.cmpi .ne (Scalar.extui (Scalar.xori (Scalar.cmpi .slt
    (Scalar.subi l (Scalar.shli (Scalar.shrsi (Scalar.minsi f 480#32) 3#32) 3#32)) 32#32) 1#1)) 0#32 = 1#1

/-- The two updates exclude each other. -/
theorem not_wide0 (f l : BitVec 32) (h : k0_cond2 f l = 1#1) : ¬ wide0 f l :=
  (by decide : ∀ w : BitVec 1, Scalar.cmpi .ne (Scalar.extui w) 0#32 = 1#1
    → ¬ Scalar.cmpi .ne (Scalar.extui (Scalar.xori w 1#1)) 0#32 = 1#1) _ h
/-- One of the two updates is made. -/
theorem wide0_of (f l : BitVec 32) (h : ¬ k0_cond2 f l = 1#1) : wide0 f l :=
  (by decide : ∀ w : BitVec 1, ¬ Scalar.cmpi .ne (Scalar.extui w) 0#32 = 1#1
    → Scalar.cmpi .ne (Scalar.extui (Scalar.xori w 1#1)) 0#32 = 1#1) _ h

/-- What a view reads after a full store made under a condition. -/
theorem read_reset {sg : RefSig} {κ : Kind} {sp : Space} {s : Shape} {e : EltTy} (v : View sg κ sp s e) (f : v.ty.Contents (Elt F))
    (R : Prop) [Decidable R] {off : Fin s.rank → ℕ} (inb : ∀ a, off a + s.size a ≤ s.size a) (w : s.Idx → Elt F e) :
    v.read (Elt F) (if hc : R then v.writes (Elt F) f [⟨Rect.unit off s.size inb, w⟩] else f) = if R then w else v.read (Elt F) f := by
  by_cases h : R
  · rw [dif_pos h, if_pos h, View.read_writes_full]
  · rw [dif_neg h, if_neg h]

/-- What a view reads after a store of a window under one condition and a full store under the opposite one. -/
theorem read_choice {sg : RefSig} {κ : Kind} {sp : Space} {s : Shape} {e : EltTy} (v : View sg κ sp s e) (f : v.ty.Contents (Elt F))
    (W N : Prop) [Decidable W] [Decidable N] (hN : N → ¬ W) (hW : ¬ N → W) {off size : Fin s.rank → ℕ}
    (inb : N → ∀ a, off a + size a ≤ s.size a) (w : ∀ h : N, (Rect.unit off size (inb h)).shape.Idx → Elt F e)
    {off' : Fin s.rank → ℕ} (inb' : ∀ a, off' a + s.size a ≤ s.size a) (w' : s.Idx → Elt F e) :
    v.read (Elt F) (if hc : W then
        v.writes (Elt F) (if hc : N then v.writes (Elt F) f [⟨Rect.unit off size (inb hc), w hc⟩] else f) [⟨Rect.unit off' s.size inb', w'⟩]
      else if hc : N then v.writes (Elt F) f [⟨Rect.unit off size (inb hc), w hc⟩] else f)
      = if h : N then VecWindow.put (v.read (Elt F) f) off size (w h) else w' := by
  by_cases h : N
  · rw [dif_neg (hN h), dif_pos h, dif_pos h, View.read_writes_cons_put v f (inb h) (w h) [] rfl, View.writes_nil]
  · rw [dif_pos (hW h), dif_neg h, dif_neg h, View.read_writes_full]

/-- The body of the first region, run on any whole buffers whose readings are given: what each buffer reads afterwards. -/
theorem run0 (c : Dev nD) (i : grid0.Coords)
    (m2 : Memref sig .tc .smem S25x2 .i32) (h2 : m2.IsWhole) (m3 : Memref sig .tc .vmem S4000x512 .f32) (h3 : m3.IsWhole)
    (m4 : Memref sig .tc .vmem S1x1x4000 .i32) (h4 : m4.IsWhole) (m5 : Memref sig .tc .vmem S512x1280 .f32) (h5 : m5.IsWhole)
    (m6 : Memref sig .tc .vmem S1x256 .f32) (h6 : m6.IsWhole) (m7 : Memref sig .tc .vmem S1x512 .f32) (h7 : m7.IsWhole)
    (m8 : Memref sig .tc .vmem S1x512x512 .f32) (h8 : m8.IsWhole) (m9 : Memref sig .tc .vmem S1x512x8 .f32) (h9 : m9.IsWhole)
    (m10 : Memref sig .tc .vmem S1x1x4000 .f32) (h10 : m10.IsWhole)
    (lim : S25x2.Idx → BitVec 32) (x : S4000x512.Idx → F .f32) (b : S1x1x4000.Idx → BitVec 32) (wc : S512x1280.Idx → F .f32)
    (w2 : S1x256.Idx → F .f32) (g2 : S1x512.Idx → F .f32) (a8 : S1x512x512.Idx → F .f32) (a9 : S1x512x8.Idx → F .f32)
    (a10 : S1x1x4000.Idx → F .f32)
    (hc1 : k0_chk1 (firstId0 i lim)) (hc2 : k0_chk2 (firstId0 i lim) (lastId0 i lim))
    (K : PUnit → sProp 𝕄) :
    iprop(owns (c : Thread nD τ) m2 fullShare lim ∗ owns (c : Thread nD τ) m3 fullShare x ∗ owns (c : Thread nD τ) m4 fullShare b
        ∗ owns (c : Thread nD τ) m5 fullShare wc ∗ owns (c : Thread nD τ) m6 fullShare w2 ∗ owns (c : Thread nD τ) m7 fullShare g2
        ∗ owns (c : Thread nD τ) m8 fullShare a8 ∗ owns (c : Thread nD τ) m9 fullShare a9 ∗ owns (c : Thread nD τ) m10 fullShare a10
        ∗ (owns (c : Thread nD τ) m2 fullShare lim ∗ owns (c : Thread nD τ) m3 fullShare x ∗ owns (c : Thread nD τ) m4 fullShare b
            ∗ owns (c : Thread nD τ) m5 fullShare wc ∗ owns (c : Thread nD τ) m6 fullShare w2 ∗ owns (c : Thread nD τ) m7 fullShare g2
            ∗ owns (c : Thread nD τ) m8 fullShare (step8 (firstId0 i lim) (lastId0 i lim) x b wc w2 (if isFirst0 i then k0_pay7 else a8))
            ∗ owns (c : Thread nD τ) m9 fullShare (step9 (firstId0 i lim) (lastId0 i lim) x b wc w2 g2 (if isFirst0 i then k0_pay8 else a9))
            ∗ owns (c : Thread nD τ) m10 fullShare (k0_pay13 x wc g2) -∗ K ⟨⟩))
      ⊢ wp frame (wpE (defs₀ (F := F)) Variants.none c none) Set.univ
          (cc0_gar_main i m2 h2 m3 h3 m4 h4 m5 h5 m6 h6 m7 h7 m8 h8 m9 h9 m10 h10) K := by
  simp only [cc0_gar_main_eq_skeleton]; unfold cc0_gar_main_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
  subst e2 e3 e4 e5 e6 e7 e8 e9 e10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  have e3 := View.readAt_full m3.view f3 inb_S4000x512_S4000x512_0_0
  have e4 := View.readAt_full m4.view f4 inb_S1x1x4000_S1x1x4000_0_0_0
  have e5 := View.readAt_full m5.view f5 inb_S512x1280_S512x1280_0_0
  have e6 := View.readAt_full m6.view f6 inb_S1x256_S1x256_0_0
  have e7 := View.readAt_full m7.view f7 inb_S1x512_S1x512_0_0
  have r1 : run0.sl.r_1 c m3 m5 f3 f5 = k0_pay10 (View.read (Elt F) m3.view f3) (View.read (Elt F) m5.view f5) := by
    rw [← e3, ← e5]; rfl
  have r2 : run0.sl.r_2 c m3 m5 m6 f3 f5 f6
      = k0_pay11 (View.read (Elt F) m3.view f3) (View.read (Elt F) m5.view f5) (View.read (Elt F) m6.view f6) := by
    rw [← e3, ← e5, ← e6]; rfl
  have r3 : run0.sl.r_3 c m3 m5 m6 m7 f3 f5 f6 f7
      = k0_pay14 (View.read (Elt F) m3.view f3) (View.read (Elt F) m5.view f5) (View.read (Elt F) m6.view f6) (View.read (Elt F) m7.view f7) := by
    rw [← e3, ← e5, ← e6, ← e7]; rfl
  have r4 : run0.sl.r_4 c m4 f4 = k0_pay15 (F := F) (View.read (Elt F) m4.view f4) := by
    rw [← e4]; rfl
  have hs8 : _ = (if isFirst0 i then k0_pay7 else View.read (Elt F) m8.view f8) :=
    read_reset m8.view f8 (run0.sl.v4 i = 1#1) inb_S1x512x512_S1x512x512_0_0_0 (k0_pay7 (F := F))
  have hs9 : _ = (if isFirst0 i then k0_pay8 else View.read (Elt F) m9.view f9) :=
    read_reset m9.view f9 (run0.sl.v4 i = 1#1) inb_S1x512x8_S1x512x8_0_0_0 (k0_pay8 (F := F))
  isplitl [H8]
  · iexists _; isplitr; swap; · iexact H8
    ipureintro
    refine (read_choice m8.view _ _ _ (not_wide0 _ _) (wide0_of _ _) _ _ _ _).trans ?_
    unfold step8
    by_cases hn : k0_cond2 (firstId0 i (View.read (Elt F) m2.view f2)) (lastId0 i (View.read (Elt F) m2.view f2)) = 1#1
    · refine (dif_pos hn).trans (.trans ?_ (dif_pos (c := narrow0 _ _) ⟨hc2, hn⟩).symm)
      have hv : run0.sl.v55 c i m2 m8 f2 f8 hc2 hn
          = VecWindow.window (if isFirst0 i then k0_pay7 else View.read (Elt F) m8.view f8)
              (k0_off3 (firstId0 i (View.read (Elt F) m2.view f2))) S1x32x512.size (hc2.1 hn) :=
        (View.readAt_unit m8.view _ _ rfl (hc2.1 hn)).trans (congrArg (VecWindow.window · _ _ _) hs8)
      rw [hv, hs8, r1, r2, r4]; rfl
    · refine (dif_neg hn).trans (.trans ?_ (dif_neg (c := narrow0 _ _) fun h => hn h.2).symm)
      have hv : run0.sl.v52 c i m2 m3 m4 m5 m6 m8 f2 f3 f4 f5 f6 f8 hc2
          = (if isFirst0 i then k0_pay7 else View.read (Elt F) m8.view f8) :=
        (View.readAt_full m8.view _ _).trans ((congrArg (View.read (Elt F) m8.view) (dif_neg hn)).trans hs8)
      rw [hv, r1, r2, r4]
  isplitl [H9]
  · iexists _; isplitr; swap; · iexact H9
    ipureintro
    refine (read_choice m9.view _ _ _ (not_wide0 _ _) (wide0_of _ _) _ _ _ _).trans ?_
    unfold step9
    by_cases hn : k0_cond2 (firstId0 i (View.read (Elt F) m2.view f2)) (lastId0 i (View.read (Elt F) m2.view f2)) = 1#1
    · refine (dif_pos hn).trans (.trans ?_ (dif_pos (c := narrow0 _ _) ⟨hc2, hn⟩).symm)
      have hv : run0.sl.v64 c i m2 m9 f2 f9 hc2 hn
          = VecWindow.window (if isFirst0 i then k0_pay8 else View.read (Elt F) m9.view f9)
              (k0_off4 (firstId0 i (View.read (Elt F) m2.view f2))) S1x32x8.size (hc2.2 hn) :=
        (View.readAt_unit m9.view _ _ rfl (hc2.2 hn)).trans (congrArg (VecWindow.window · _ _ _) hs9)
      rw [hv, hs9, r3, r4]; rfl
    · refine (dif_neg hn).trans (.trans ?_ (dif_neg (c := narrow0 _ _) fun h => hn h.2).symm)
      have hv : run0.sl.v58 c i m2 m3 m4 m5 m6 m7 m9 f2 f3 f4 f5 f6 f7 f9 hc2
          = (if isFirst0 i then k0_pay8 else View.read (Elt F) m9.view f9) :=
        (View.readAt_full m9.view _ _).trans ((congrArg (View.read (Elt F) m9.view) (dif_neg hn)).trans hs9)
      rw [hv, r3, r4]
  · iexists _; isplitr; swap; · iexact H10
    ipureintro
    rw [← e3, ← e5, ← e7]
    exact View.read_writes_full _ _ _ _ _

end Cert.KernelIdeal.Hand

end
-- ==== Proof.Body1.lean ====
module

public import proofs.«01_k».proof.Proof.Body0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A word of the table of limits at offsets `o`. -/
abbrev limWord (lim : S25x2.Idx → BitVec 32) (o : Fin 2 → ℕ) (inb : ∀ a, o a + S1x1.size a ≤ S25x2.size a) : BitVec 32 :=
  VecWindow.window lim o S1x1.size inb (Shape.Idx.first (numel1_S1x1.symm ▸ Nat.one_pos))

/-- One block's weights, from the block's segment numbers `ids` and exponentials `e` and the table `rb` of reciprocal denominators. -/
def attRow (f l : BitVec 32) (ids : S1x1x4000.Idx → BitVec 32) (e : S1x1x4000.Idx → F .f32) (rb : S512x1.Idx → F .f32) :
    S1x1x4000.Idx → F .f32 :=
  if h : k1_chk2 f l ∧ k1_cond2 f l = 1#1 then
    k1_pay6 f ids e (VecWindow.window rb (k1_off3 f) S32x1.size (h.1 h.2))
  else k1_pay7 (F := F) ids e rb

/-- The five blocks' weights a point of the second region leaves. -/
def att5 (i : grid1.Coords) (lim : S25x2.Idx → BitVec 32) (b : S5x1x4000.Idx → BitVec 32) (e : S5x1x4000.Idx → F .f32)
    (rb : S512x1.Idx → F .f32) (a : S5x1x4000.Idx → F .f32) : S5x1x4000.Idx → F .f32 :=
  VecWindow.put (VecWindow.put (VecWindow.put (VecWindow.put (VecWindow.put (a) ![0, 0, 0] S1x1x4000.size
    (attRow (limWord lim (k1_off1 i) (k1_off1_inb i)) (limWord lim (k1_off2 i) (k1_off2_inb i))
      (VecWindow.window b ![0, 0, 0] S1x1x4000.size inb_S5x1x4000_S1x1x4000_0_0_0)
      (VecWindow.window e ![0, 0, 0] S1x1x4000.size inb_S5x1x4000_S1x1x4000_0_0_0) rb)) ![1, 0, 0] S1x1x4000.size
    (attRow (limWord lim (k1_off4 i) (k1_off4_inb i)) (limWord lim (k1_off5 i) (k1_off5_inb i))
      (VecWindow.window b ![1, 0, 0] S1x1x4000.size inb_S5x1x4000_S1x1x4000_1_0_0)
      (VecWindow.window e ![1, 0, 0] S1x1x4000.size inb_S5x1x4000_S1x1x4000_1_0_0) rb)) ![2, 0, 0] S1x1x4000.size
    (attRow (limWord lim (k1_off7 i) (k1_off7_inb i)) (limWord lim (k1_off8 i) (k1_off8_inb i))
      (VecWindow.window b ![2, 0, 0] S1x1x4000.size inb_S5x1x4000_S1x1x4000_2_0_0)
      (VecWindow.window e ![2, 0, 0] S1x1x4000.size inb_S5x1x4000_S1x1x4000_2_0_0) rb)) ![3, 0, 0] S1x1x4000.size
    (attRow (limWord lim (k1_off10 i) (k1_off10_inb i)) (limWord lim (k1_off11 i) (k1_off11_inb i))
      (VecWindow.window b ![3, 0, 0] S1x1x4000.size inb_S5x1x4000_S1x1x4000_3_0_0)
      (VecWindow.window e ![3, 0, 0] S1x1x4000.size inb_S5x1x4000_S1x1x4000_3_0_0) rb)) ![4, 0, 0] S1x1x4000.size
    (attRow (limWord lim (k1_off13 i) (k1_off13_inb i)) (limWord lim (k1_off14 i) (k1_off14_inb i))
      (VecWindow.window b ![4, 0, 0] S1x1x4000.size inb_S5x1x4000_S1x1x4000_4_0_0)
      (VecWindow.window e ![4, 0, 0] S1x1x4000.size inb_S5x1x4000_S1x1x4000_4_0_0) rb)

/-- What a view reads after one window is stored under a condition and again under the opposite one. -/
theorem read_row {sg : RefSig} {κ : Kind} {sp : Space} {s : Shape} {e : EltTy} (v : View sg κ sp s e) (f : v.ty.Contents (Elt F))
    (W N : Prop) [Decidable W] [Decidable N] (hN : N → ¬ W) (hW : ¬ N → W) {off size : Fin s.rank → ℕ}
    (inb : ∀ a, off a + size a ≤ s.size a) (w : N → (Rect.unit off size inb).shape.Idx → Elt F e)
    (w' : (Rect.unit off size inb).shape.Idx → Elt F e) :
    v.read (Elt F) (if hc : W then
        v.writes (Elt F) (if hc : N then v.writes (Elt F) f [⟨Rect.unit off size inb, w hc⟩] else f) [⟨Rect.unit off size inb, w'⟩]
      else if hc : N then v.writes (Elt F) f [⟨Rect.unit off size inb, w hc⟩] else f)
      = VecWindow.put (v.read (Elt F) f) off size (if h : N then w h else w') := by
  by_cases h : N
  · rw [dif_neg (hN h), dif_pos h, dif_pos h, View.read_writes_cons_put v f inb (w h) [] rfl, View.writes_nil]
  · rw [dif_pos (hW h), dif_neg h, dif_neg h, View.read_writes_cons_put v f inb w' [] rfl, View.writes_nil]

theorem put_congr {α : Type} {s : Shape} {x x' : s.Idx → α} {off size : Fin s.rank → ℕ} {w w' : ((a : Fin s.rank) → Fin (size a)) → α}
    (hx : x = x') (hw : w = w') : VecWindow.put x off size w = VecWindow.put x' off size w' := by
  subst hx hw; rfl

/-- The later blocks' payloads are the first block's, at their own operands. -/
theorem pay10_eq : @k1_pay10 F _ = @k1_pay6 F _ := rfl
theorem pay11_eq : @k1_pay11 F _ = @k1_pay7 F _ := rfl
theorem pay14_eq (f : BitVec 32) (b : S1x1x4000.Idx → BitVec 32) (e : S1x1x4000.Idx → F .f32) (r : S32x1.Idx → F .f32) :
    k1_pay14 (Scalar.shrsi (Scalar.minsi f 480#32) 3#32) 3#32 b e r = k1_pay6 f b e r := rfl
theorem pay15_eq : @k1_pay15 F _ = @k1_pay7 F _ := rfl
theorem pay18_eq (f : BitVec 32) (b : S1x1x4000.Idx → BitVec 32) (e : S1x1x4000.Idx → F .f32) (r : S32x1.Idx → F .f32) :
    k1_pay18 (Scalar.shli (Scalar.shrsi (Scalar.minsi f 480#32) 3#32) 3#32) (k1_pay16 (F := F) b) e r = k1_pay6 f b e r := rfl
theorem pay19_eq (b : S1x1x4000.Idx → BitVec 32) (e : S1x1x4000.Idx → F .f32) (r : S512x1.Idx → F .f32) :
    k1_pay19 (k1_pay16 (F := F) b) e r = k1_pay7 b e r := rfl
theorem pay22_eq : @k1_pay22 F _ = @k1_pay6 F _ := rfl
theorem pay23_eq : @k1_pay23 F _ = @k1_pay7 F _ := rfl

/-- The later blocks' side conditions and offsets are the first block's, at their own words. -/
theorem chk4_eq : k1_chk4 = k1_chk2 := rfl
theorem chk6_eq : k1_chk6 = k1_chk2 := rfl
theorem chk8_eq : k1_chk8 = k1_chk2 := rfl
theorem chk10_eq : k1_chk10 = k1_chk2 := rfl
theorem off6_eq : k1_off6 = k1_off3 := rfl
theorem off9_eq : k1_off9 = k1_off3 := rfl
theorem off12_eq : k1_off12 = k1_off3 := rfl
theorem off15_eq : k1_off15 = k1_off3 := rfl

/-- The payload stored for one block is `attRow` of what the table reads. -/
theorem row_of (f l f' : BitVec 32) (hc : k1_chk2 f l) {ids ids' : S1x1x4000.Idx → BitVec 32} {e e' : S1x1x4000.Idx → F .f32}
    {rb v : S512x1.Idx → F .f32} {u : k1_cond2 f l = 1#1 → S32x1.Idx → F .f32} (hf : f' = f) (hids : ids' = ids) (he : e' = e)
    (hu : ∀ h, u h = VecWindow.window rb (k1_off3 f) S32x1.size (hc h)) (hv : v = rb) :
    (if h : k1_cond2 f l = 1#1 then k1_pay6 f' ids' e' (u h) else k1_pay7 (F := F) ids' e' v) = attRow f l ids e rb := by
  subst hf hids he hv
  unfold attRow
  by_cases h : k1_cond2 f' l = 1#1
  · rw [dif_pos h, dif_pos ⟨hc, h⟩, hu h]
  · rw [dif_neg h, dif_neg fun h' => h h'.2]
/-- The same with the third block's operands. -/
theorem row_of14 (f l f' c : BitVec 32) (hc : k1_chk2 f l) {ids ids' : S1x1x4000.Idx → BitVec 32} {e e' : S1x1x4000.Idx → F .f32}
    {rb v : S512x1.Idx → F .f32} {u : k1_cond2 f l = 1#1 → S32x1.Idx → F .f32}
    (hf : f' = Scalar.shrsi (Scalar.minsi f 480#32) 3#32) (hcc : c = 3#32) (hids : ids' = ids) (he : e' = e)
    (hu : ∀ h, u h = VecWindow.window rb (k1_off3 f) S32x1.size (hc h)) (hv : v = rb) :
    (if h : k1_cond2 f l = 1#1 then k1_pay14 f' c ids' e' (u h) else k1_pay15 (F := F) ids' e' v) = attRow f l ids e rb := by
  subst hf hcc
  simp only [pay14_eq]
  rw [pay15_eq]
  exact row_of f l f hc rfl hids he hu hv
/-- The same with the fourth block's operands. -/
theorem row_of18 (f l f' : BitVec 32) (hc : k1_chk2 f l) {ids : S1x1x4000.Idx → BitVec 32} {row : S1x4000.Idx → BitVec 32}
    {e e' : S1x1x4000.Idx → F .f32} {rb v : S512x1.Idx → F .f32} {u : k1_cond2 f l = 1#1 → S32x1.Idx → F .f32}
    (hf : f' = Scalar.shli (Scalar.shrsi (Scalar.minsi f 480#32) 3#32) 3#32) (hids : row = k1_pay16 (F := F) ids) (he : e' = e)
    (hu : ∀ h, u h = VecWindow.window rb (k1_off3 f) S32x1.size (hc h)) (hv : v = rb) :
    (if h : k1_cond2 f l = 1#1 then k1_pay18 f' row e' (u h) else k1_pay19 (F := F) row e' v) = attRow f l ids e rb := by
  subst hf hids
  simp only [pay18_eq, pay19_eq]
  exact row_of f l f hc rfl rfl he hu hv

/-- The condition under which the body reads the whole table. -/
abbrev wide1 (f l : BitVec 32) : Prop := wide0 f l
theorem not_wide1 (f l : BitVec 32) (h : k1_cond2 f l = 1#1) : ¬ wide1 f l := not_wide0 f l h
theorem wide1_of (f l : BitVec 32) (h : ¬ k1_cond2 f l = 1#1) : wide1 f l := wide0_of f l h

/-- The body of the second region, run on any whole buffers whose readings are given: what each buffer reads afterwards. -/
theorem run1 (c : Dev nD) (i : grid1.Coords)
    (m1 : Memref sig .tc .smem S25x2 .i32) (h1 : m1.IsWhole) (m2 : Memref sig .tc .vmem S1x512x512 .f32) (h2 : m2.IsWhole)
    (m3 : Memref sig .tc .vmem S1x512x8 .f32) (h3 : m3.IsWhole) (m4 : Memref sig .tc .vmem S5x1x4000 .f32) (h4 : m4.IsWhole)
    (m5 : Memref sig .tc .vmem S5x1x4000 .i32) (h5 : m5.IsWhole) (m6 : Memref sig .tc .vmem S512x512 .f32) (h6 : m6.IsWhole)
    (m7 : Memref sig .tc .vmem S5x1x4000 .f32) (h7 : m7.IsWhole) (m8 : Memref sig .tc .vmem S512x1 .f32) (h8 : m8.IsWhole)
    (lim : S25x2.Idx → BitVec 32) (acc : S1x512x512.Idx → F .f32) (da : S1x512x8.Idx → F .f32) (e2 : S5x1x4000.Idx → F .f32)
    (b : S5x1x4000.Idx → BitVec 32) (a6 : S512x512.Idx → F .f32) (a7 : S5x1x4000.Idx → F .f32) (a8 : S512x1.Idx → F .f32)
    (hc1 : k1_chk1 (limWord lim (k1_off1 i) (k1_off1_inb i)))
    (hc2 : k1_chk2 (limWord lim (k1_off1 i) (k1_off1_inb i)) (limWord lim (k1_off2 i) (k1_off2_inb i)))
    (hc3 : k1_chk3 (limWord lim (k1_off4 i) (k1_off4_inb i)))
    (hc4 : k1_chk4 (limWord lim (k1_off4 i) (k1_off4_inb i)) (limWord lim (k1_off5 i) (k1_off5_inb i)))
    (hc5 : k1_chk5 (limWord lim (k1_off7 i) (k1_off7_inb i)))
    (hc6 : k1_chk6 (limWord lim (k1_off7 i) (k1_off7_inb i)) (limWord lim (k1_off8 i) (k1_off8_inb i)))
    (hc7 : k1_chk7 (limWord lim (k1_off10 i) (k1_off10_inb i)))
    (hc8 : k1_chk8 (limWord lim (k1_off10 i) (k1_off10_inb i)) (limWord lim (k1_off11 i) (k1_off11_inb i)))
    (hc9 : k1_chk9 (limWord lim (k1_off13 i) (k1_off13_inb i)))
    (hc10 : k1_chk10 (limWord lim (k1_off13 i) (k1_off13_inb i)) (limWord lim (k1_off14 i) (k1_off14_inb i)))
    (K : PUnit → sProp 𝕄) :
    iprop(owns (c : Thread nD τ) m1 fullShare lim ∗ owns (c : Thread nD τ) m2 fullShare acc ∗ owns (c : Thread nD τ) m3 fullShare da
        ∗ owns (c : Thread nD τ) m4 fullShare e2 ∗ owns (c : Thread nD τ) m5 fullShare b ∗ owns (c : Thread nD τ) m6 fullShare a6
        ∗ owns (c : Thread nD τ) m7 fullShare a7 ∗ owns (c : Thread nD τ) m8 fullShare a8
        ∗ (owns (c : Thread nD τ) m1 fullShare lim ∗ owns (c : Thread nD τ) m2 fullShare acc ∗ owns (c : Thread nD τ) m3 fullShare da
            ∗ owns (c : Thread nD τ) m4 fullShare e2 ∗ owns (c : Thread nD τ) m5 fullShare b
            ∗ owns (c : Thread nD τ) m6 fullShare (if k1_cond1 i = 1#1 then k1_pay2 da acc else a6)
            ∗ owns (c : Thread nD τ) m7 fullShare (att5 i lim b e2 (if k1_cond1 i = 1#1 then k1_pay3 da else a8) a7)
            ∗ owns (c : Thread nD τ) m8 fullShare (if k1_cond1 i = 1#1 then k1_pay3 da else a8) -∗ K ⟨⟩))
      ⊢ wp frame (wpE (defs₀ (F := F)) Variants.none c none) Set.univ
          (cc1_gar_fin i m1 h1 m2 h2 m3 h3 m4 h4 m5 h5 m6 h6 m7 h7 m8 h8) K := by
  simp only [cc1_gar_fin_eq_skeleton]; unfold cc1_gar_fin_skel
  simp only [k1_part4_eq_skeleton]; unfold k1_part4_skel
  simp only [k1_part1_eq_skeleton, k1_part2_eq_skeleton, k1_part3_eq_skeleton]; unfold k1_part1_skel k1_part2_skel k1_part3_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  subst e1 e2 e3 e4 e5 e6 e7 e8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  have e2 := View.readAt_full m2.view f2 inb_S1x512x512_S1x512x512_0_0_0
  have e3 := View.readAt_full m3.view f3 inb_S1x512x8_S1x512x8_0_0_0
  isplitl [H6]
  · iexists _; isplitr; swap; · iexact H6
    ipureintro
    rw [← e2, ← e3]
    exact read_reset m6.view f6 (k1_cond1 i = 1#1) inb_S512x512_S512x512_0_0 _
  have hs8 := read_reset m8.view f8 (k1_cond1 i = 1#1) inb_S512x1_S512x1_0_0
    (k1_pay3 (View.readAt (Elt F) m3.view (Rect.unit ![0, 0, 0] S1x512x8.size inb_S1x512x8_S1x512x8_0_0_0).toLoadRect f3))
  have hrb := congrArg (fun y => if k1_cond1 i = 1#1 then k1_pay3 y else View.read (Elt F) m8.view f8) e3
  replace hs8 := hs8.trans hrb
  isplitl [H7]
  · iexists _; isplitr; swap; · iexact H7
    ipureintro
    refine (read_row (F := F) m7.view _ _ (k1_cond2 (limWord (View.read (Elt F) m1.view f1) (k1_off13 i) (k1_off13_inb i)) (limWord (View.read (Elt F) m1.view f1) (k1_off14 i) (k1_off14_inb i)) = 1#1) (not_wide1 _ _) (wide1_of _ _) inb_S5x1x4000_S1x1x4000_4_0_0 _ _).trans (put_congr ?_ ?_)
    swap
    · rw [pay22_eq, pay23_eq]
      exact row_of _ _ _ (chk10_eq ▸ hc10) rfl rfl rfl
        (fun hn => (View.readAt_unit m8.view _ _ (congrFun off15_eq _) _).trans (congrArg (VecWindow.window · _ _ _) hs8))
        ((View.readAt_full m8.view _ _).trans hs8)
    refine (read_row (F := F) m7.view _ _ (k1_cond2 (limWord (View.read (Elt F) m1.view f1) (k1_off10 i) (k1_off10_inb i)) (limWord (View.read (Elt F) m1.view f1) (k1_off11 i) (k1_off11_inb i)) = 1#1) (not_wide1 _ _) (wide1_of _ _) inb_S5x1x4000_S1x1x4000_3_0_0 _ _).trans (put_congr ?_ ?_)
    swap
    · exact row_of18 _ _ _ (chk8_eq ▸ hc8) rfl rfl rfl
        (fun hn => (View.readAt_unit m8.view _ _ (congrFun off12_eq _) _).trans (congrArg (VecWindow.window · _ _ _) hs8))
        ((View.readAt_full m8.view _ _).trans hs8)
    refine (read_row (F := F) m7.view _ _ (k1_cond2 (limWord (View.read (Elt F) m1.view f1) (k1_off7 i) (k1_off7_inb i)) (limWord (View.read (Elt F) m1.view f1) (k1_off8 i) (k1_off8_inb i)) = 1#1) (not_wide1 _ _) (wide1_of _ _) inb_S5x1x4000_S1x1x4000_2_0_0 _ _).trans (put_congr ?_ ?_)
    swap
    · exact row_of14 _ _ _ _ (chk6_eq ▸ hc6) rfl rfl rfl rfl
        (fun hn => (View.readAt_unit m8.view _ _ (congrFun off9_eq _) _).trans (congrArg (VecWindow.window · _ _ _) hs8))
        ((View.readAt_full m8.view _ _).trans hs8)
    refine (read_row (F := F) m7.view _ _ (k1_cond2 (limWord (View.read (Elt F) m1.view f1) (k1_off4 i) (k1_off4_inb i)) (limWord (View.read (Elt F) m1.view f1) (k1_off5 i) (k1_off5_inb i)) = 1#1) (not_wide1 _ _) (wide1_of _ _) inb_S5x1x4000_S1x1x4000_1_0_0 _ _).trans (put_congr ?_ ?_)
    swap
    · rw [pay10_eq, pay11_eq]
      exact row_of _ _ _ (chk4_eq ▸ hc4) rfl rfl rfl
        (fun hn => (View.readAt_unit m8.view _ _ (congrFun off6_eq _) _).trans (congrArg (VecWindow.window · _ _ _) hs8))
        ((View.readAt_full m8.view _ _).trans hs8)
    refine (read_row (F := F) m7.view _ _ (k1_cond2 (limWord (View.read (Elt F) m1.view f1) (k1_off1 i) (k1_off1_inb i)) (limWord (View.read (Elt F) m1.view f1) (k1_off2 i) (k1_off2_inb i)) = 1#1) (not_wide1 _ _) (wide1_of _ _) inb_S5x1x4000_S1x1x4000_0_0_0 _ _).trans (put_congr ?_ ?_)
    swap
    · exact row_of _ _ _ hc2 rfl rfl rfl
        (fun hn => (View.readAt_unit m8.view _ _ rfl _).trans (congrArg (VecWindow.window · _ _ _) hs8))
        ((View.readAt_full m8.view _ _).trans hs8)
    rfl
  · iexists _; isplitr; swap; · iexact H8
    ipureintro
    rw [← e3]
    exact read_reset m8.view f8 (k1_cond1 i = 1#1) inb_S512x1_S512x1_0_0 (k1_pay3 (F := F) _)

end Cert.KernelIdeal.Hand

end
-- ==== Proof.Region0.lean ====
module

public import proofs.«01_k».proof.Proof.Body0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every buffer of every core. -/
abbrev Bufs (F : FTy → Type) [FloatOps F] : Type := (c : Dev nD) → (b : Ref sig .tc) → Buf (Elt F) ((c : Thread nD τ).loc b)

variable (V : Bufs F) (c : Dev nD)

/-! ## The blocks the first region's points read -/

abbrev lim0 (t : Fin cfg0.N) : S25x2.Idx → BitVec 32 := ((cfg0.win 0).blk t).view.read (Elt F) (V c (Pipeline.arrRef spec0 0))
abbrev x0 (t : Fin cfg0.N) : S4000x512.Idx → F .f32 := ((cfg0.win 1).blk t).view.read (Elt F) (V c (Pipeline.arrRef spec0 1))
abbrev b0 (t : Fin cfg0.N) : S1x1x4000.Idx → BitVec 32 := ((cfg0.win 2).blk t).view.read (Elt F) (V c (Pipeline.arrRef spec0 2))
abbrev wc0 (t : Fin cfg0.N) : S512x1280.Idx → F .f32 := ((cfg0.win 3).blk t).view.read (Elt F) (V c (Pipeline.arrRef spec0 3))
abbrev w20 (t : Fin cfg0.N) : S1x256.Idx → F .f32 := ((cfg0.win 4).blk t).view.read (Elt F) (V c (Pipeline.arrRef spec0 4))
abbrev g20 (t : Fin cfg0.N) : S1x512.Idx → F .f32 := ((cfg0.win 5).blk t).view.read (Elt F) (V c (Pipeline.arrRef spec0 5))

/-- The first and last segment numbers of a point's block. -/
abbrev fst0 (t : Fin cfg0.N) : BitVec 32 := firstId0 (grid0.coords t) (lim0 V c t)
abbrev lst0 (t : Fin cfg0.N) : BitVec 32 := lastId0 (grid0.coords t) (lim0 V c t)

/-- The accumulated rows after point `n`: the points' updates from zero. -/
def acc0 : (n : ℕ) → n < cfg0.N → S1x512x512.Idx → F .f32
  | 0, h => step8 (fst0 V c ⟨0, h⟩) (lst0 V c ⟨0, h⟩) (x0 V c ⟨0, h⟩) (b0 V c ⟨0, h⟩) (wc0 V c ⟨0, h⟩) (w20 V c ⟨0, h⟩) k0_pay7
  | n + 1, h => step8 (fst0 V c ⟨n + 1, h⟩) (lst0 V c ⟨n + 1, h⟩) (x0 V c ⟨n + 1, h⟩) (b0 V c ⟨n + 1, h⟩) (wc0 V c ⟨n + 1, h⟩)
      (w20 V c ⟨n + 1, h⟩) (acc0 n (by omega))

/-- The accumulated denominators after point `n`. -/
def den0 : (n : ℕ) → n < cfg0.N → S1x512x8.Idx → F .f32
  | 0, h => step9 (fst0 V c ⟨0, h⟩) (lst0 V c ⟨0, h⟩) (x0 V c ⟨0, h⟩) (b0 V c ⟨0, h⟩) (wc0 V c ⟨0, h⟩) (w20 V c ⟨0, h⟩) (g20 V c ⟨0, h⟩) k0_pay8
  | n + 1, h => step9 (fst0 V c ⟨n + 1, h⟩) (lst0 V c ⟨n + 1, h⟩) (x0 V c ⟨n + 1, h⟩) (b0 V c ⟨n + 1, h⟩) (wc0 V c ⟨n + 1, h⟩)
      (w20 V c ⟨n + 1, h⟩) (g20 V c ⟨n + 1, h⟩) (den0 n (by omega))

/-- The exponentials of the scores a point stores. -/
abbrev e20 (t : Fin cfg0.N) : S1x1x4000.Idx → F .f32 := k0_pay13 (x0 V c t) (wc0 V c t) (g20 V c t)

/-- The first region's proof data: inputs as fetched, the accumulators by their recursions, the scores point by point. -/
def dat0 (c : Dev nD) : Dat τ (Elt F) Unit ℕ (UR sig nD τ) ℕ cfg0 c where
  A w := V c (Pipeline.arrRef spec0 w)
  after w t := match w with
    | ⟨0, _⟩ => lim0 V c t
    | ⟨1, _⟩ => x0 V c t
    | ⟨2, _⟩ => b0 V c t
    | ⟨3, _⟩ => wc0 V c t
    | ⟨4, _⟩ => w20 V c t
    | ⟨5, _⟩ => g20 V c t
    | ⟨6, _⟩ => acc0 V c t.val t.isLt
    | ⟨7, _⟩ => den0 V c t.val t.isLt
    | ⟨8, _⟩ => e20 V c t
  Φ _ := Pipeline.scopedRest (Ix := Unit) (Name := ℕ) (U := UR sig nD τ) (Lvl := ℕ) (Val := Elt F) spec0 c
  q _ := fullShare
  owed _ := 0

theorem A0_eq (w : Fin cfg0.W) : (dat0 V c).A w = V c (Pipeline.arrRef spec0 w) := by dsimp only [dat0]

/-! ## What each window's buffer holds when the body runs -/

theorem before0_0 (t) (d) : (dat0 V c).before 0 t d = lim0 V c t :=
  ((dat0 V c).before_in_eq_fetched 0 rfl (fun _ => rfl) (fun _ _ _ => rfl) (fun _ => rfl) t d).trans rfl
theorem before0_1 (t) (d) : (dat0 V c).before 1 t d = x0 V c t :=
  ((dat0 V c).before_in_eq_fetched 1 rfl (fun _ => rfl) (fun _ _ _ => rfl) (fun _ => rfl) t d).trans rfl
theorem before0_2 (t) (d) : (dat0 V c).before 2 t d = b0 V c t :=
  ((dat0 V c).before_in_eq_fetched 2 rfl (fun _ => rfl) (fun _ _ _ => rfl) (fun _ => rfl) t d).trans rfl
theorem before0_3 (t) (d) : (dat0 V c).before 3 t d = wc0 V c t :=
  ((dat0 V c).before_in_eq_fetched 3 rfl (fun _ => rfl) (fun _ _ _ => rfl) (fun _ => rfl) t d).trans rfl
theorem before0_4 (t) (d) : (dat0 V c).before 4 t d = w20 V c t :=
  ((dat0 V c).before_in_eq_fetched 4 rfl (fun _ => rfl) (fun _ _ _ => rfl) (fun _ => rfl) t d).trans rfl
theorem before0_5 (t) (d) : (dat0 V c).before 5 t d = g20 V c t :=
  ((dat0 V c).before_in_eq_fetched 5 rfl (fun _ => rfl) (fun _ _ _ => rfl) (fun _ => rfl) t d).trans rfl

theorem isFirst0_iff : ∀ t : Fin cfg0.N, isFirst0 (grid0.coords t) ↔ t.val = 0 :=
  (by decide +kernel : ∀ t : Fin grid0.N, isFirst0 (grid0.coords t) ↔ t.val = 0)

theorem flush0_6_prev (t : Fin cfg0.N) (ht : t.val ≠ 0) : (cfg0.win 6).flush ⟨t.val - 1, Nat.lt_of_le_of_lt (Nat.sub_le _ _) t.isLt⟩ = false := by
  rw [Bool.eq_false_iff]; intro h
  have h1 := (flush0_6 _).mp h
  have h2 : t.val < 25 := t.isLt
  simp only at h1; omega
theorem flush0_7_prev (t : Fin cfg0.N) (ht : t.val ≠ 0) : (cfg0.win 7).flush ⟨t.val - 1, Nat.lt_of_le_of_lt (Nat.sub_le _ _) t.isLt⟩ = false := by
  rw [Bool.eq_false_iff]; intro h
  have h1 := (flush0_7 _).mp h
  have h2 : t.val < 25 := t.isLt
  simp only at h1; omega

/-- The accumulated rows after a point are its update of what the buffer held. -/
theorem acc0_step (t : Fin cfg0.N) (d) :
    step8 (fst0 V c t) (lst0 V c t) (x0 V c t) (b0 V c t) (wc0 V c t) (w20 V c t)
      (if isFirst0 (grid0.coords t) then k0_pay7 else (dat0 V c).before 6 t d) = acc0 V c t.val t.isLt := by
  obtain ⟨n, hn⟩ := t
  cases n with
  | zero => rw [if_pos ((isFirst0_iff _).mpr rfl)]; rfl
  | succ n =>
    rw [if_neg (fun h => by simpa using (isFirst0_iff _).mp h),
      (dat0 V c).before_out_kept 6 rfl ⟨n + 1, hn⟩ (Nat.succ_ne_zero n) (flush0_6_prev _ (Nat.succ_ne_zero n)) (fun _ => rfl) (fun _ _ => rfl)]
    rfl
theorem den0_step (t : Fin cfg0.N) (d) :
    step9 (fst0 V c t) (lst0 V c t) (x0 V c t) (b0 V c t) (wc0 V c t) (w20 V c t) (g20 V c t)
      (if isFirst0 (grid0.coords t) then k0_pay8 else (dat0 V c).before 7 t d) = den0 V c t.val t.isLt := by
  obtain ⟨n, hn⟩ := t
  cases n with
  | zero => rw [if_pos ((isFirst0_iff _).mpr rfl)]; rfl
  | succ n =>
    rw [if_neg (fun h => by simpa using (isFirst0_iff _).mp h),
      (dat0 V c).before_out_kept 7 rfl ⟨n + 1, hn⟩ (Nat.succ_ne_zero n) (flush0_7_prev _ (Nat.succ_ne_zero n)) (fun _ => rfl) (fun _ _ => rfl)]
    rfl

/-- The region's side conditions: every block's first number starts an aligned window within the 512 segments. -/
def Good0 : Prop := ∀ (c : Dev nD) (t : Fin cfg0.N), k0_chk1 (fst0 V c t) ∧ k0_chk2 (fst0 V c t) (lst0 V c t)

theorem defs₀_row0 (t : Fin cfg0.N) : defs₀ (F := F) .tc cfg0.body (cfg0.bodyArgs t (cfg0.slots t)) = bodyAt0 t := by
  unfold defs₀; rw [Defs.onTc_tc]

/-- The body meets its obligation at every point. -/
theorem body_obligation0 (hg : Good0 V) : BodyObligation (dat0 V c) (defs₀ (F := F)) Variants.none () Set.univ := fun t => by
  rw [defs₀_row0]
  rw [bigSep_W0, bigSep_W0]
  rw [show (dat0 V c).Φ t.castSucc = (dat0 V c).Φ t.succ from rfl]
  unfold Dat.owesAt Pipeline.owesWithin
  rw [show (dat0 V c).owed t.castSucc = 0 from rfl, show (dat0 V c).owed t.succ = 0 from rfl]
  simp only [before0_0, before0_1, before0_2, before0_3, before0_4, before0_5]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold bodyAt0
  iapply (run0 c (grid0.coords t) _ _ _ _ _ _ _ _ _ _ _ _ _ _ _ _ _ _ (lim0 V c t) (x0 V c t) (b0 V c t) (wc0 V c t) (w20 V c t) (g20 V c t)
    ((dat0 V c).before 6 t d6) ((dat0 V c).before 7 t d7) ((dat0 V c).before 8 t d8) (hg c t).1 (hg c t).2)
  rw [acc0_step, den0_step]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.Region1.lean ====
module

public import Idealize.ShloMosaic.Lib.Pipeline.TableIdle
public import proofs.«01_k».proof.Proof.Body1
public import proofs.«01_k».proof.Proof.Region0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs F) (c : Dev nD)

/-! ## The blocks the second region's points read -/

abbrev lim1 (t : Fin cfg1.N) : S25x2.Idx → BitVec 32 := ((cfg1.win 0).blk t).view.read (Elt F) (V c (Pipeline.arrRef spec1 0))
abbrev acc1 (t : Fin cfg1.N) : S1x512x512.Idx → F .f32 := ((cfg1.win 1).blk t).view.read (Elt F) (V c (Pipeline.arrRef spec1 1))
abbrev den1 (t : Fin cfg1.N) : S1x512x8.Idx → F .f32 := ((cfg1.win 2).blk t).view.read (Elt F) (V c (Pipeline.arrRef spec1 2))
abbrev e21 (t : Fin cfg1.N) : S5x1x4000.Idx → F .f32 := ((cfg1.win 3).blk t).view.read (Elt F) (V c (Pipeline.arrRef spec1 3))
abbrev b1 (t : Fin cfg1.N) : S5x1x4000.Idx → BitVec 32 := ((cfg1.win 4).blk t).view.read (Elt F) (V c (Pipeline.arrRef spec1 4))

/-- The scaled rows and the reciprocal denominators, both made at the first point. -/
abbrev emb1 : S512x512.Idx → F .f32 := k1_pay2 (den1 V c t1_0) (acc1 V c t1_0)
abbrev rb1 : S512x1.Idx → F .f32 := k1_pay3 (den1 V c t1_0)

/-- The weights a point stores: every entry is stored, so what the buffer held before does not matter. -/
abbrev w1 (t : Fin cfg1.N) : S5x1x4000.Idx → F .f32 :=
  att5 (grid1.coords t) (lim1 V c t) (b1 V c t) (e21 V c t) (rb1 V c) (e21 V c t)

/-- The scoped buffers the second region does not use. -/
def rest1 : sProp 𝕄 :=
  iprop((∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg0_0), ((c : Thread nD τ).loc cc0_stg0_0) ↦{fullShare} f))

/-- The scratch table: at something before the first point, at the reciprocal denominators afterwards. -/
def scr1 (n : ℕ) : sProp 𝕄 :=
  iprop(∃ X : S512x1.Idx → F .f32, ⌜n ≠ 0 → X = rb1 V c⌝ ∗ owns (c : Thread nD τ) (Memref.whole cc1_scratch0) fullShare X)

/-- The second region's proof data. -/
def dat1 (c : Dev nD) : Dat τ (Elt F) Unit ℕ (UR sig nD τ) ℕ cfg1 c where
  A w := V c (Pipeline.arrRef spec1 w)
  after w t := match w with
    | ⟨0, _⟩ => lim1 V c t
    | ⟨1, _⟩ => acc1 V c t
    | ⟨2, _⟩ => den1 V c t
    | ⟨3, _⟩ => e21 V c t
    | ⟨4, _⟩ => b1 V c t
    | ⟨5, _⟩ => emb1 V c
    | ⟨6, _⟩ => w1 V c t
  Φ t := iprop(rest1 c ∗ scr1 V c t.val)
  q _ := fullShare
  owed _ := 0

theorem A1_eq (w : Fin cfg1.W) : (dat1 V c).A w = V c (Pipeline.arrRef spec1 w) := by dsimp only [dat1]

/-! ## What each window's buffer holds when the body runs -/

theorem before1_0 (t) (d) : (dat1 V c).before 0 t d = lim1 V c t :=
  ((dat1 V c).before_in_eq_fetched 0 rfl (fun _ => rfl) (fun _ _ _ => rfl) (fun _ => rfl) t d).trans rfl
theorem before1_1 (t) (d) : (dat1 V c).before 1 t d = acc1 V c t :=
  ((dat1 V c).before_in_eq_fetched 1 rfl (fun _ => rfl) (fun _ _ _ => rfl) (fun _ => rfl) t d).trans rfl
theorem before1_2 (t) (d) : (dat1 V c).before 2 t d = den1 V c t :=
  ((dat1 V c).before_in_eq_fetched 2 rfl (fun _ => rfl) (fun _ _ _ => rfl) (fun _ => rfl) t d).trans rfl
theorem before1_3 (t) (d) : (dat1 V c).before 3 t d = e21 V c t :=
  ((dat1 V c).before_in_eq_fetched 3 rfl (fun _ => rfl) (fun _ _ _ => rfl) (fun _ => rfl) t d).trans rfl
theorem before1_4 (t) (d) : (dat1 V c).before 4 t d = b1 V c t :=
  ((dat1 V c).before_in_eq_fetched 4 rfl (fun _ => rfl) (fun _ _ _ => rfl) (fun _ => rfl) t d).trans rfl

theorem isFirst1_iff : ∀ t : Fin cfg1.N, k1_cond1 (grid1.coords t) = 1#1 ↔ t.val = 0 :=
  (by decide +kernel : ∀ t : Fin grid1.N, k1_cond1 (grid1.coords t) = 1#1 ↔ t.val = 0)

theorem flush1_5_prev (t : Fin cfg1.N) (ht : t.val ≠ 0) : (cfg1.win 5).flush ⟨t.val - 1, Nat.lt_of_le_of_lt (Nat.sub_le _ _) t.isLt⟩ = false := by
  rw [Bool.eq_false_iff]; intro h
  have h1 := (flush1_5 _).mp h
  have h2 : t.val < 5 := t.isLt
  simp only at h1; omega

theorem fresh1_5 : ∀ t : Fin cfg1.N, cfg1.fresh 5 t.val = (t.val == 0) :=
  (by decide +kernel : ∀ t : Fin grid1.N, cfg1.fresh 5 t.val = (t.val == 0))

/-- After the first point the scaled rows' buffer holds them. -/
theorem before1_5 (t : Fin cfg1.N) (ht : t.val ≠ 0) (d) : (dat1 V c).before 5 t d = emb1 V c := by
  rw [(dat1 V c).before_out_traj 5 rfl (fun _ _ => rfl) (fun _ _ _ _ => rfl) t.val t rfl d, if_neg]
  · rfl
  · rw [fresh1_5]; simpa using ht

/-- The scaled rows are made at the first point and kept. -/
theorem emb1_step (t : Fin cfg1.N) (d) :
    (if k1_cond1 (grid1.coords t) = 1#1 then k1_pay2 (den1 V c t) (acc1 V c t) else (dat1 V c).before 5 t d) = emb1 V c := by
  by_cases ht : t.val = 0
  · rw [if_pos ((isFirst1_iff t).mpr ht)]
    obtain ⟨n, hn⟩ := t
    simp only at ht; subst ht; rfl
  · rw [if_neg (fun h => ht ((isFirst1_iff t).mp h)), before1_5 V c t ht]

/-- The table of reciprocal denominators is made at the first point and kept. -/
theorem rb1_step (t : Fin cfg1.N) (X : S512x1.Idx → F .f32) (hX : t.val ≠ 0 → X = rb1 V c) :
    (if k1_cond1 (grid1.coords t) = 1#1 then k1_pay3 (den1 V c t) else X) = rb1 V c := by
  obtain ⟨n, hn⟩ := t
  cases n with
  | zero => rw [if_pos ((isFirst1_iff _).mpr rfl)]; rfl
  | succ n =>
    rw [if_neg (fun h => by simpa using (isFirst1_iff _).mp h)]
    exact hX (Nat.succ_ne_zero n)

theorem put_rows_congr (a a' : S5x1x4000.Idx → F .f32) (r0 r1 r2 r3 r4 : S1x1x4000.Idx → F .f32) :
    VecWindow.put (VecWindow.put (VecWindow.put (VecWindow.put (VecWindow.put a ![0, 0, 0] S1x1x4000.size r0) ![1, 0, 0] S1x1x4000.size r1)
      ![2, 0, 0] S1x1x4000.size r2) ![3, 0, 0] S1x1x4000.size r3) ![4, 0, 0] S1x1x4000.size r4
    = VecWindow.put (VecWindow.put (VecWindow.put (VecWindow.put (VecWindow.put a' ![0, 0, 0] S1x1x4000.size r0) ![1, 0, 0] S1x1x4000.size r1)
      ![2, 0, 0] S1x1x4000.size r2) ![3, 0, 0] S1x1x4000.size r3) ![4, 0, 0] S1x1x4000.size r4 := by
  funext y
  unfold VecWindow.put
  split; · rfl
  rename_i h4; split; · rfl
  rename_i h3; split; · rfl
  rename_i h2; split; · rfl
  rename_i h1; split; · rfl
  rename_i h0
  exfalso
  have y0 : (y 0).val < 5 := (y 0).isLt
  have y1 : (y 1).val < 1 := (y 1).isLt
  have y2 : (y 2).val < 4000 := (y 2).isLt
  have key : ∀ k : ℕ, (y 0).val = k → ∀ a, (![k, 0, 0] : Fin 3 → ℕ) a ≤ (y a).val ∧ (y a).val < (![k, 0, 0] : Fin 3 → ℕ) a + S1x1x4000.size a := by
    intro k hk a
    fin_cases a
    · show k ≤ (y 0).val ∧ (y 0).val < k + 1; omega
    · show 0 ≤ (y 1).val ∧ (y 1).val < 0 + 1; omega
    · show 0 ≤ (y 2).val ∧ (y 2).val < 0 + 4000; omega
  have : (y 0).val = 0 ∨ (y 0).val = 1 ∨ (y 0).val = 2 ∨ (y 0).val = 3 ∨ (y 0).val = 4 := by omega
  rcases this with h | h | h | h | h
  · exact h0 (key 0 h)
  · exact h1 (key 1 h)
  · exact h2 (key 2 h)
  · exact h3 (key 3 h)
  · exact h4 (key 4 h)

/-- The weights do not depend on what the buffer held before. -/
theorem att5_congr (i : grid1.Coords) (lim : S25x2.Idx → BitVec 32) (b : S5x1x4000.Idx → BitVec 32) (e : S5x1x4000.Idx → F .f32)
    (rb : S512x1.Idx → F .f32) (a a' : S5x1x4000.Idx → F .f32) : att5 i lim b e rb a = att5 i lim b e rb a' :=
  put_rows_congr _ _ _ _ _ _ _

/-- The second region's side conditions, block by block. -/
def Good1 : Prop := ∀ (c : Dev nD) (t : Fin cfg1.N),
k1_chk1 (limWord (lim1 V c t) (k1_off1 (grid1.coords t)) (k1_off1_inb (grid1.coords t)))
    ∧ k1_chk2 (limWord (lim1 V c t) (k1_off1 (grid1.coords t)) (k1_off1_inb (grid1.coords t))) (limWord (lim1 V c t) (k1_off2 (grid1.coords t)) (k1_off2_inb (grid1.coords t)))
    ∧ k1_chk3 (limWord (lim1 V c t) (k1_off4 (grid1.coords t)) (k1_off4_inb (grid1.coords t)))
    ∧ k1_chk4 (limWord (lim1 V c t) (k1_off4 (grid1.coords t)) (k1_off4_inb (grid1.coords t))) (limWord (lim1 V c t) (k1_off5 (grid1.coords t)) (k1_off5_inb (grid1.coords t)))
    ∧ k1_chk5 (limWord (lim1 V c t) (k1_off7 (grid1.coords t)) (k1_off7_inb (grid1.coords t)))
    ∧ k1_chk6 (limWord (lim1 V c t) (k1_off7 (grid1.coords t)) (k1_off7_inb (grid1.coords t))) (limWord (lim1 V c t) (k1_off8 (grid1.coords t)) (k1_off8_inb (grid1.coords t)))
    ∧ k1_chk7 (limWord (lim1 V c t) (k1_off10 (grid1.coords t)) (k1_off10_inb (grid1.coords t)))
    ∧ k1_chk8 (limWord (lim1 V c t) (k1_off10 (grid1.coords t)) (k1_off10_inb (grid1.coords t))) (limWord (lim1 V c t) (k1_off11 (grid1.coords t)) (k1_off11_inb (grid1.coords t)))
    ∧ k1_chk9 (limWord (lim1 V c t) (k1_off13 (grid1.coords t)) (k1_off13_inb (grid1.coords t)))
    ∧ k1_chk10 (limWord (lim1 V c t) (k1_off13 (grid1.coords t)) (k1_off13_inb (grid1.coords t))) (limWord (lim1 V c t) (k1_off14 (grid1.coords t)) (k1_off14_inb (grid1.coords t)))

theorem defs₀_row1 (t : Fin cfg1.N) : defs₀ (F := F) .tc cfg1.body (cfg1.bodyArgs t (cfg1.slots t)) = bodyAt1 t := by
  unfold defs₀; rw [Defs.onTc_tc]

/-- The body meets its obligation at every point. -/
theorem body_obligation1 (hg : Good1 V) : BodyObligation (dat1 V c) (defs₀ (F := F)) Variants.none () Set.univ := fun t => by
  rw [defs₀_row1]
  rw [bigSep_W1, bigSep_W1]
  rw [show (dat1 V c).Φ t.castSucc = iprop(rest1 c ∗ scr1 V c t.val) from rfl,
    show (dat1 V c).Φ t.succ = iprop(rest1 c ∗ scr1 V c (t.val + 1)) from rfl]
  unfold Dat.owesAt Pipeline.owesWithin scr1
  rw [show (dat1 V c).owed t.castSucc = 0 from rfl, show (dat1 V c).owed t.succ = 0 from rfl]
  simp only [before1_0, before1_1, before1_2, before1_3, before1_4]
  iintro ⟨⟨HR, ⟨%X, %hX, HX⟩⟩, ⟨%W, %hW, HO⟩, ⟨%d0, H0⟩, ⟨%d1, H1⟩, ⟨%d2, H2⟩, ⟨%d3, H3⟩, ⟨%d4, H4⟩, ⟨%d5, H5⟩, ⟨%d6, H6⟩⟩
  unfold bodyAt1
  obtain ⟨g1, g2, g3, g4, g5, g6, g7, g8, g9, g10⟩ := hg c t
  iapply (run1 c (grid1.coords t) _ _ _ _ _ _ _ _ _ _ _ _ _ _ _ _ (lim1 V c t) (acc1 V c t) (den1 V c t) (e21 V c t) (b1 V c t)
    ((dat1 V c).before 5 t d5) ((dat1 V c).before 6 t d6) X g1 g2 g3 g4 g5 g6 g7 g8 g9 g10)
  rw [emb1_step, rb1_step V c t X hX, att5_congr _ _ _ _ _ _ (e21 V c t)]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HX]; · iexact HX
  iintro ⟨H0, H1, H2, H3, H4, H5, H6, HX⟩
  isplitl [HR HX]
  · isplitl [HR]; · iexact HR
    iexists _; isplitr; swap; · iexact HX
    ipureintro; exact fun _ => rfl
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]
  · split
    · rename_i hid
      have hid' : idle1 5 (grid1.coords t) = true := hid
      have ht : t.val ≠ 0 := fun h => by
        have h1 := (isFirst1_iff t).mpr h
        simp [idle1, h1] at hid'
      split
      · iexists d5; rw [before1_5 V c t ht]; iexact H5
      · iexact H5
    · iexact H5
  iexact H6

end Cert.KernelIdeal.Hand

end
-- ==== Proof.Run.lean ====
module

public import proofs.«01_k».proof.Proof.Region1
public import proofs.«01_k».proof.Proof.Gen.KernelIdeal.Regions
public import Idealize.ShloMosaic.Lib.Pipeline.RegionArraysS
public import Idealize.ShloMosaic.Lib.Pipeline.Regions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Pipeline (Seg HostSeg RegionSeg)

/-! The launch: the host operations, the two regions and the last reshape as segments, and what the run leaves. -/

local notation "𝕄" => MT nD τ sig Unit (Elt F) ℕ (UR sig nD τ) ℕ

variable (m : (ℓ : Loc nD τ sig) → Buf (Elt F) ℓ) (ρ : Dev nD → PrngReg)

/-! ## The buffers' contents between the items -/

/-- When the first region is entered: the host operations have run. -/
def W1 (c : Dev nD) : Valuation τ sig (Elt F) := StableHlo.after hostOps0 (V0 m c)
/-- The same, by reference. -/
abbrev B1 : Bufs F := fun c b => W1 m c b
/-- When the second region is entered: the first region's arrays are at what it leaves. -/
def W2 (c : Dev nD) : Valuation τ sig (Elt F) := Pipeline.afterRegion (dat0 (B1 m) c) (W1 m c)
abbrev B2 : Bufs F := fun c b => W2 m c b
/-- When the second region is left. -/
def W3 (c : Dev nD) : Valuation τ sig (Elt F) := Pipeline.afterRegion (dat1 (B2 m) c) (W2 m c)
/-- At the end. -/
def W4 (c : Dev nD) : Valuation τ sig (Elt F) := StableHlo.after hostOps2 (W3 m c)

/-- Both regions' proof data, each at the contents it is entered with. -/
def pdats : (p : Fin 2) → (c : Dev nD) → Dat τ (Elt F) Unit ℕ (UR sig nD τ) ℕ (cfgs p) c
  | ⟨0, _⟩ => fun c => dat0 (B1 m) c
  | ⟨1, _⟩ => fun c => dat1 (B2 m) c

abbrev EP : Emb (UR sig nD τ) 𝕄 := emb₁
abbrev 𝒱₀ : Variants := Variants.none
/-- No core owes another anything; the staging cells carry the one index at level zero. -/
abbrev L : GSem nD τ sig → Finset Unit := fun g => if g.1.2 = .tc then {()} else ∅
abbrev lv : GSem nD τ sig → Unit → ℕ := fun _ _ => 0
/-- What rides beside the buffers: the core owes nothing. -/
abbrev E (c : Dev nD) : sProp 𝕄 := iprop((∃ W, owes (c : Thread nD τ) (0 : CellTallies nD τ sig Unit) W) ∗ emp ∗ emp)

def u₀ : UR sig nD τ := initOf (Pipeline.cells cfgs cellOf_inj) (Pipeline.launchToks cfgs cellOf_inj)

/-- The host operations before the regions, and the reshape after them from contents `W`. -/
def S0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def S3 (W : Dev nD → Valuation τ sig (Elt F)) : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) W E

/-- The segments, given the regions' records. -/
abbrev segs' (pd : (p : Fin 2) → (c : Dev nD) → Dat τ (Elt F) Unit ℕ (UR sig nD τ) ℕ (cfgs p) c) (W : Dev nD → Valuation τ sig (Elt F))
    (R0 : RegionSeg (pcfgs (F := F)) adm pd () defs₀ 𝒱₀ L lv 0) (R1 : RegionSeg (pcfgs (F := F)) adm pd () defs₀ 𝒱₀ L lv 1) :
    List (Seg (pcfgs (F := F)) adm pd () defs₀ 𝒱₀ L lv) :=
  [.host (S0 m), .region R0, .region R1, .host (S3 W)]

set_option backward.isDefEq.respectTransparency.types false in
/-- Given the regions' records, entered and left with the unscoped buffers held at the stated contents: every fair execution
    terminates, every unscoped buffer ends at the last reshape's result from `W` and every counter at zero. -/
theorem run_of (pd : (p : Fin 2) → (c : Dev nD) → Dat τ (Elt F) Unit ℕ (UR sig nD τ) ℕ (cfgs p) c) (U W : Dev nD → Valuation τ sig (Elt F))
    (R0 : RegionSeg (pcfgs (F := F)) adm pd () defs₀ 𝒱₀ L lv 0) (R1 : RegionSeg (pcfgs (F := F)) adm pd () defs₀ 𝒱₀ L lv 1)
    (hpre0 : ∀ c : Dev nD, iprop(StableHlo.held (c : Thread nD τ) (Pipeline.ucRefs τ sig) (StableHlo.after hostOps0 (V0 m c)) ∗ E c) ⊢ R0.pre c)
    (hpost0 : ∀ c : Dev nD, R0.post c ⊢ iprop(StableHlo.held (c : Thread nD τ) (Pipeline.ucRefs τ sig) (U c) ∗ E c))
    (hpre1 : ∀ c : Dev nD, iprop(StableHlo.held (c : Thread nD τ) (Pipeline.ucRefs τ sig) (U c) ∗ E c) ⊢ R1.pre c)
    (hpost1 : ∀ c : Dev nD, R1.post c ⊢ iprop(StableHlo.held (c : Thread nD τ) (Pipeline.ucRefs τ sig) (W c) ∗ E c)) :
    θ_run defs (onTc (τ := τ) (main (F := F))) ⟨m, fun _ => 0, ρ⟩ (fun r =>
      (∀ (c : Dev nD) (b : Ref sig .tc), b.isScoped = false → r.2.mem ((c : Thread nD τ).loc b) = StableHlo.after hostOps2 (W c) b)
      ∧ r.2.sem = fun _ => 0) := by
  refine Pipeline.θ_run_regions_kit_dev_sems (pcfgs (F := F)) adm pd () cellOf_inj EP defs₀ 𝒱₀ L lv m ρ main
    (fun _ => segs' m pd W R0 R1)
    (fun c Q => by
      rewrite [main_chain c, Seg.run_eq_chain,
        show (segs' m pd W R0 R1).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs', Seg.pipes_host, Seg.pipes_region, Seg.pipes_nil]; decide) 0
    (fun g hg => by simp [L, hg]) (fun _ => iprop(emp)) u₀ ?_
    (T₀ := fun c => iprop(StableHlo.held (c : Thread nD τ) (Pipeline.ucRefs τ sig) (V0 m c) ∗ E c))
    (Tₙ := fun c => StableHlo.held (c : Thread nD τ) (Pipeline.ucRefs τ sig) (StableHlo.after hostOps2 (W c)))
    (hch := fun c => ⟨.rfl, hpre0 c, (hpost0 c).trans (hpre1 c), hpost1 c, sep_mono .rfl (by iintro ⟨H, -⟩; iexact H)⟩)
    (hinit := ?_)
    (QY := fun c s => ∀ b : Ref sig .tc, b.isScoped = false → s.mem ((c : Thread nD τ).loc b) = StableHlo.after hostOps2 (W c) b)
    (hfin := fun c s' => ?_) (hQ := fun _ h hz => ⟨h, funext fun g => hz g (.inr (regions_no_unscoped g.2))⟩)
  · refine (show (ownU u₀ : sProp 𝕄) ⊢ BI.own (EP (initOf (Pipeline.cells (Pipeline.pin (pcfgs (F := F)) adm) cellOf_inj) (Pipeline.launchToks (Pipeline.pin (pcfgs (F := F)) adm) cellOf_inj))) from Entails.refl _).trans ?_
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (StableHlo.after hostOps2 (W c)) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    iexact HSI

theorem cut0 : Pipeline.LevelCut (pcfgs (F := F)) adm () L lv 0 (fun _ => 0) (fun _ => 0) where
  hι _ _ _ := by simp [L]
  hιb _ _ _ := le_rfl
  hD _ _ _ h := absurd h (lt_irrefl _)

theorem cut1 : Pipeline.LevelCut (pcfgs (F := F)) adm () L lv 1 (fun _ => 0) (fun _ => 0) where
  hι _ _ _ := by simp [L]
  hιb _ _ _ := le_rfl
  hD _ _ _ h := absurd h (lt_irrefl _)

theorem sub0 : Pipeline.arrRefs (τ := τ) (pcfgs (F := F) 0).spec ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, fun h => Bool.false_ne_true (((by decide : ∀ w, (Pipeline.arrRef spec0 w).isScoped = false) w).symm.trans h)⟩

theorem sub1 : Pipeline.arrRefs (τ := τ) (pcfgs (F := F) 1).spec ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, fun h => Bool.false_ne_true (((by decide : ∀ w, (Pipeline.arrRef spec1 w).isScoped = false) w).symm.trans h)⟩

/-- The scoped buffers no window of the second region stages give its invariant at the start. -/
theorem enter1 (V : Bufs F) (c : Dev nD) :
    iprop(Pipeline.scopedRest (Ix := Unit) (Name := ℕ) (U := UR sig nD τ) (Lvl := ℕ) (Val := Elt F) spec1 c ∗ emp)
      ⊢ (iprop(rest1 c ∗ scr1 V c 0) : sProp 𝕄) := by
  rw [scopedRest1_eq]
  unfold rest1 scr1
  iintro ⟨⟨H0, H1, H2, H3, H4, H5, H6, H7, H8, H9, H10, ⟨%f, H11⟩, H12⟩, -⟩
  isplitr [H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H12
  · iexists f
    isplitr; · ipureintro; exact fun h => absurd rfl h
    rw [owns_whole_eq]
    iexists f; isplitr; · ipureintro; rfl
    iexact H11

/-- The invariant gives the scoped buffers back. -/
theorem leave1 (V : Bufs F) (c : Dev nD) (n : ℕ) :
    (iprop(rest1 c ∗ scr1 V c n) : sProp 𝕄)
      ⊢ iprop(Pipeline.scopedRest (Ix := Unit) (Name := ℕ) (U := UR sig nD τ) (Lvl := ℕ) (Val := Elt F) spec1 c ∗ emp) := by
  rw [scopedRest1_eq]
  unfold rest1 scr1
  simp only [owns_whole_eq]
  iintro ⟨⟨H0, H1, H2, H3, H4, H5, H6, H7, H8, H9, H10, H12⟩, ⟨%X, -, ⟨%f, -, H11⟩⟩⟩
  isplitl
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists f; iexact H11
    iexact H12
  · iempintro

theorem enter0 (V : Bufs F) (c : Dev nD) :
    iprop(Pipeline.scopedRest (Ix := Unit) (Name := ℕ) (U := UR sig nD τ) (Lvl := ℕ) (Val := Elt F) spec0 c ∗ emp)
      ⊢ (Pipeline.scopedRest (Ix := Unit) (Name := ℕ) (U := UR sig nD τ) (Lvl := ℕ) (Val := Elt F) spec0 c : sProp 𝕄) := by
  iintro ⟨H, -⟩; iexact H

theorem leave0 (V : Bufs F) (c : Dev nD) :
    (Pipeline.scopedRest (Ix := Unit) (Name := ℕ) (U := UR sig nD τ) (Lvl := ℕ) (Val := Elt F) spec0 c : sProp 𝕄)
      ⊢ iprop(Pipeline.scopedRest (Ix := Unit) (Name := ℕ) (U := UR sig nD τ) (Lvl := ℕ) (Val := Elt F) spec0 c ∗ emp) := by
  iintro H; isplitl; · iexact H
  iempintro

set_option backward.isDefEq.respectTransparency.types false in
/-- The first region as a segment, entered from the buffers at `W1` and left with them at `W2`. -/
theorem region0 (hg : Good0 (B1 m)) : ∃ R : RegionSeg (pcfgs (F := F)) adm (pdats m) () defs₀ 𝒱₀ L lv 0,
    (∀ c : Dev nD, iprop(StableHlo.held (c : Thread nD τ) (Pipeline.ucRefs τ sig) (W1 m c) ∗ E c) ⊢ R.pre c)
    ∧ ∀ c : Dev nD, R.post c ⊢ iprop(StableHlo.held (c : Thread nD τ) (Pipeline.ucRefs τ sig) (W2 m c) ∗ E c) :=
  ⟨Pipeline.RegionSeg.ofHeldIn (pcfgs (F := F)) adm (pdats m) () defs₀ 𝒱₀ L lv 0 (fun _ => 0) (Pipeline.ucRefs τ sig)
    (fun _ => iprop(emp)) (fun _ => iprop(emp)) launch0.toP rfl
    (fun c => (body_obligation0 (B1 m) c hg).loose) (fun _ _ => rfl) (fun _ => rfl)
    (fun c => (dat0 (B1 m) c).share_full fun _ => rfl)
    (fun c => enter0 (B1 m) c) (fun c => leave0 (B1 m) c)
    (fun _ => 0) cut0 (fun _ => iprop(emp)) (W1 m) (fun c w => A0_eq (B1 m) c w),
    Pipeline.RegionSeg.ofHeldIn_pre sub0, Pipeline.RegionSeg.ofHeldIn_post sub0⟩

set_option backward.isDefEq.respectTransparency.types false in
/-- The second region as a segment, entered from the buffers at `W2` and left with them at `W3`. -/
theorem region1 (hg : Good1 (B2 m)) : ∃ R : RegionSeg (pcfgs (F := F)) adm (pdats m) () defs₀ 𝒱₀ L lv 1,
    (∀ c : Dev nD, iprop(StableHlo.held (c : Thread nD τ) (Pipeline.ucRefs τ sig) (W2 m c) ∗ E c) ⊢ R.pre c)
    ∧ ∀ c : Dev nD, R.post c ⊢ iprop(StableHlo.held (c : Thread nD τ) (Pipeline.ucRefs τ sig) (W3 m c) ∗ E c) :=
  ⟨Pipeline.RegionSeg.ofHeldIn (pcfgs (F := F)) adm (pdats m) () defs₀ 𝒱₀ L lv 1 (fun _ => 0) (Pipeline.ucRefs τ sig)
    (fun _ => iprop(emp)) (fun _ => iprop(emp)) launch1.toP rfl
    (fun c => (body_obligation1 (B2 m) c hg).loose) (fun _ _ => rfl) (fun _ => rfl)
    (fun c => (dat1 (B2 m) c).share_full fun _ => rfl)
    (fun c => enter1 (B2 m) c) (fun c => leave1 (B2 m) c _)
    (fun _ => 0) cut1 (fun _ => iprop(emp)) (W2 m) (fun c w => A1_eq (B2 m) c w),
    Pipeline.RegionSeg.ofHeldIn_pre sub1, Pipeline.RegionSeg.ofHeldIn_post sub1⟩

/-- Every fair execution terminates; every unscoped buffer ends at `W4` and every counter at zero. -/
theorem run_main (h0 : Good0 (B1 m)) (h1 : Good1 (B2 m)) :
    θ_run defs (onTc (τ := τ) (main (F := F))) ⟨m, fun _ => 0, ρ⟩ (fun r =>
      (∀ (c : Dev nD) (b : Ref sig .tc), b.isScoped = false → r.2.mem ((c : Thread nD τ).loc b) = W4 m c b) ∧ r.2.sem = fun _ => 0) := by
  obtain ⟨R, hR, hR'⟩ := region0 m h0
  obtain ⟨Q, hQ, hQ'⟩ := region1 m h1
  exact run_of m ρ (pdats m) (W2 m) (W3 m) R Q hR hR' hQ hQ'

/-! ## Where the run leaves each buffer -/

/-- A buffer no item writes ends as launched. -/
theorem W4_kept (c : Dev nD) (r : Ref sig .tc) (h0 : r ∉ hostOps0_W) (h2 : r ∉ hostOps2_W)
    (hr0 : ∀ w, Pipeline.arrRef spec0 w = r → (cfg0.win w).isOut = false) (hr1 : ∀ w, Pipeline.arrRef spec1 w = r → (cfg1.win w).isOut = false) :
    W4 m c r = m ((c : Thread nD τ).loc r) :=
  (StableHlo.after_of_writes_sub hostOps2 _ hostOps2_writes h2).trans <|
    (Pipeline.afterRegion_keeps (dat1 (B2 m) c) (W2 m c) launch1.win.arr_inj (fun w => A1_eq (B2 m) c w) r hr1).trans <|
      (Pipeline.afterRegion_keeps (dat0 (B1 m) c) (W1 m c) launch0.win.arr_inj (fun w => A0_eq (B1 m) c w) r hr0).trans <|
        (StableHlo.after_of_writes_sub hostOps0 _ hostOps0_writes h0).trans rfl

end Cert.KernelIdeal.Hand

end
-- ==== Proof.Host.lean ====
module

public import proofs.«01_k».proof.Proof.Run
public import Idealize.ShloMosaic.Lib.Exec
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What the host operations before the regions leave in the arrays the regions read. -/

variable (m : (ℓ : Loc nD τ sig) → Buf (Elt F) ℓ) (c : Dev nD)

/-- The segment numbers as launched, and the same as rows of 4000. -/
abbrev batch : S100000.Idx → BitVec 32 := m ((c : Thread nD τ).loc main_arg1)
abbrev rows : S25x4000.Idx → BitVec 32 := shapeCast S25x4000 (batch m c) shapeCasts_S100000_S25x4000

theorem W1_arg0 : W1 m c main_arg0 = m ((c : Thread nD τ).loc main_arg0) := by
  unfold W1; exact (StableHlo.after_of_writes_sub hostOps0 _ hostOps0_writes (by decide)).trans rfl
theorem W1_v1 : W1 m c main_v1 = shapeCast S25x1x4000 (rows m c) shapeCasts_S25x4000_S25x1x4000 := by
  unfold W1; after_results; rfl
theorem W1_v8 : W1 m c main_v8 = concatenate S25x2 1
    [⟨S25x1, broadcastInDim S25x1 ![0] bcast_S25_S25x1_0 (shapeCast S25 (extractStridedSlice S25x1 ![0, 0] (rows m c) slices_S25x4000_S25x1_0_0) shapeCasts_S25x1_S25)⟩,
     ⟨S25x1, broadcastInDim S25x1 ![0] bcast_S25_S25x1_0 (shapeCast S25 (extractStridedSlice S25x1 ![0, 3999] (rows m c) slices_S25x4000_S25x1_0_3999) shapeCasts_S25x1_S25)⟩]
    concatenates_S25x1_S25x1_S25x2_d1 := by
  unfold W1; after_results; rfl
theorem W1_v9 : W1 m c main_v9 = concatenate S512x1280 1
    [⟨S512x256, (m ((c : Thread nD τ).loc main_arg2) : S512x256.Idx → F .f32)⟩, ⟨S512x512, (m ((c : Thread nD τ).loc main_arg6) : S512x512.Idx → F .f32)⟩,
     ⟨S512x512, (m ((c : Thread nD τ).loc main_arg8) : S512x512.Idx → F .f32)⟩]
    concatenates_S512x256_S512x512_S512x512_S512x1280_d1 := by
  unfold W1; after_results; rfl
theorem W1_v10 : W1 m c main_v10 = transpose S1x256 [1, 0] (m ((c : Thread nD τ).loc main_arg4) : S256x1.Idx → F .f32) transposes_S256x1_S1x256_1_0 := by
  unfold W1; after_results
theorem W1_v15 : W1 m c main_v15 = transpose S1x512 [1, 0]
    (Host.divf (broadcastInDim S512x1 ![0] bcast_S512_S512x1_0 (Host.reduceAdd (m ((c : Thread nD τ).loc main_arg10) : S512x8.Idx → F .f32) (constant S_ .f32 0x00000000#32) reducesTo_S512x8_S512_d1 h_S_))
      (broadcastInDim S512x1 ![] bcast_S_S512x1 (constant S_ .f32 0x41000000#32))) transposes_S512x1_S1x512_1_0 := by
  unfold W1; after_results

end Cert.KernelIdeal.Hand

end
-- ==== Proof.Words.lean ====
module

public import proofs.«01_k».proof.Proof.Body0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The segment numbers as 32-bit words: the aligned start of the narrow window and its condition. -/

/-- The narrow window's first row for a first segment number `f`. -/
abbrev base (f : BitVec 32) : BitVec 32 := k0_mult1 f

theorem base_table : ∀ n : Fin 512, 8 ∣ (base (BitVec.ofNat 32 n.val)).toNat ∧ (base (BitVec.ofNat 32 n.val)).toNat ≤ 480
    ∧ (base (BitVec.ofNat 32 n.val)).toNat ≤ n.val := by decide +kernel

theorem word_eq (f : BitVec 32) : f = BitVec.ofNat 32 f.toNat := by simp

theorem base_dvd (f : BitVec 32) (h : f.toNat < 512) : 8 ∣ (base f).toNat := by
  have := (base_table ⟨f.toNat, h⟩).1; rwa [← word_eq] at this
theorem base_le (f : BitVec 32) (h : f.toNat < 512) : (base f).toNat ≤ 480 := by
  have := (base_table ⟨f.toNat, h⟩).2.1; rwa [← word_eq] at this
theorem base_le_self (f : BitVec 32) (h : f.toNat < 512) : (base f).toNat ≤ f.toNat := by
  have := (base_table ⟨f.toNat, h⟩).2.2; rwa [← word_eq] at this

theorem cond_slt : ∀ b : Bool, (IntOp.cmpi .ne (Scalar.extui (BitVec.ofBool b) : BitVec 32) 0#32 : BitVec 1) = 1#1 ↔ b = true := by decide

/-- The narrow window is taken exactly when the last segment number lies inside it. -/
theorem cond2_iff (f l : BitVec 32) (hf : f.toNat < 512) (hl : l.toNat < 512) :
    k0_cond2 f l = 1#1 ↔ l.toNat < (base f).toNat + 32 := by
  have h1 : k0_cond2 f l = 1#1 ↔ BitVec.slt (l - base f) 32#32 = true := by
    show (IntOp.cmpi .ne (Scalar.extui (IntOp.cmpi .slt (l - base f) 32#32)) 0#32 : BitVec 1) = 1#1 ↔ _
    generalize hb : BitVec.slt (l - base f) 32#32 = b
    have : (IntOp.cmpi .slt (l - base f) 32#32 : BitVec 1) = BitVec.ofBool b := by rw [← hb]; rfl
    rw [this]
    exact cond_slt b
  have hB := base_le f hf
  rw [h1]
  generalize base f = B at *
  simp only [BitVec.slt, decide_eq_true_eq, BitVec.toInt_eq_toNat_cond, BitVec.toNat_sub, BitVec.toNat_ofNat]
  split <;> split <;> omega

/-- Both side conditions of the narrow window hold of a first segment number in range. -/
theorem chk1_of (f : BitVec 32) (hf : f.toNat < 512) : k0_chk1 f := base_dvd f hf
theorem chk2_of (f l : BitVec 32) (hf : f.toNat < 512) : k0_chk2 f l := by
  have h := base_le f hf
  have e3 : k0_off3 f = ![0, (base f).toNat, 0] := rfl
  have e4 : k0_off4 f = ![0, (base f).toNat, 0] := rfl
  refine ⟨fun _ a => ?_, fun _ a => ?_⟩
  · rw [e3]; fin_cases a <;> simp [S1x32x512, S1x512x512] <;> omega
  · rw [e4]; fin_cases a <;> simp [S1x32x8, S1x512x8] <;> omega
theorem chk2'_of (f l : BitVec 32) (hf : f.toNat < 512) : k1_chk2 f l := by
  have h := base_le f hf
  have e3 : k1_off3 f = ![(base f).toNat, 0] := rfl
  refine fun _ a => ?_
  rw [e3]; fin_cases a <;> simp [S32x1, S512x1] <;> omega

end Cert.KernelIdeal.Hand

end
-- ==== Proof.Blocks.lean ====
module

public import proofs.«01_k».proof.Proof.Region1
public import proofs.«01_k».proof.Proof.Words
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The blocks the two regions' points read, as entries of the arrays. -/

variable (V : Bufs F) (c : Dev nD)

theorem idx0 : ∀ t : Fin grid0.N, win0_0.index t = ![0, 0] ∧ win0_1.index t = ![t.val, 0] ∧ win0_2.index t = ![t.val, 0, 0]
    ∧ win0_3.index t = ![0, 0] ∧ win0_4.index t = ![0, 0] ∧ win0_5.index t = ![0, 0] := by decide +kernel
theorem idx1 : ∀ t : Fin grid1.N, win1_0.index t = ![0, 0] ∧ win1_1.index t = ![0, 0, 0] ∧ win1_2.index t = ![0, 0, 0]
    ∧ win1_3.index t = ![t.val, 0, 0] ∧ win1_4.index t = ![t.val, 0, 0] := by decide +kernel

theorem lim0_apply (t : Fin cfg0.N) (i : Fin 25) (k : Fin 2) : lim0 V c t (ix2 i k) = V c main_v8 (ix2 i k) := by
  blk_ext [lim0, (idx0 t).1]
theorem x0_apply (t : Fin cfg0.N) (r : Fin 4000) (k : Fin 512) :
    x0 V c t (ix2 r k) = V c main_arg0 (ix2 (⟨t.val * 4000 + r.val, by have : t.val < 25 := t.isLt; omega⟩ : Fin 100000) k) := by
  blk_ext [x0, (idx0 t).2.1]
theorem b0_apply (t : Fin cfg0.N) (r : Fin 4000) :
    b0 V c t (ix3 0 0 r) = V c main_v1 (ix3 (⟨t.val, t.isLt⟩ : Fin 25) 0 r) := by
  blk_ext [b0, (idx0 t).2.2.1]
theorem wc0_apply (t : Fin cfg0.N) (i : Fin 512) (k : Fin 1280) : wc0 V c t (ix2 i k) = V c main_v9 (ix2 i k) := by
  blk_ext [wc0, (idx0 t).2.2.2.1]
theorem w20_apply (t : Fin cfg0.N) (k : Fin 256) : w20 V c t (ix2 0 k) = V c main_v10 (ix2 0 k) := by
  blk_ext [w20, (idx0 t).2.2.2.2.1]
theorem g20_apply (t : Fin cfg0.N) (k : Fin 512) : g20 V c t (ix2 0 k) = V c main_v15 (ix2 0 k) := by
  blk_ext [g20, (idx0 t).2.2.2.2.2]

theorem lim1_apply (t : Fin cfg1.N) (i : Fin 25) (k : Fin 2) : lim1 V c t (ix2 i k) = V c main_v8 (ix2 i k) := by
  blk_ext [lim1, (idx1 t).1]
theorem acc1_apply (t : Fin cfg1.N) (i : Fin 512) (k : Fin 512) : acc1 V c t (ix3 0 i k) = V c main_v16_0 (ix3 0 i k) := by
  blk_ext [acc1, (idx1 t).2.1]
theorem den1_apply (t : Fin cfg1.N) (i : Fin 512) (k : Fin 8) : den1 V c t (ix3 0 i k) = V c main_v16_1 (ix3 0 i k) := by
  blk_ext [den1, (idx1 t).2.2.1]
theorem e21_apply (t : Fin cfg1.N) (j : Fin 5) (r : Fin 4000) :
    e21 V c t (ix3 j 0 r) = V c main_v16_2 (ix3 (⟨t.val * 5 + j.val, by have : t.val < 5 := t.isLt; omega⟩ : Fin 25) 0 r) := by
  blk_ext [e21, (idx1 t).2.2.2.1]
theorem b1_apply (t : Fin cfg1.N) (j : Fin 5) (r : Fin 4000) :
    b1 V c t (ix3 j 0 r) = V c main_v1 (ix3 (⟨t.val * 5 + j.val, by have : t.val < 5 := t.isLt; omega⟩ : Fin 25) 0 r) := by
  blk_ext [b1, (idx1 t).2.2.2.2]

/-- A word of the table of limits at given offsets. -/
theorem limWord_eq (lim : S25x2.Idx → BitVec 32) (o : Fin 2 → ℕ) (inb : ∀ a, o a + S1x1.size a ≤ S25x2.size a) (i : Fin 25) (k : Fin 2)
    (h0 : o 0 = i.val) (h1 : o 1 = k.val) : limWord lim o inb = lim (ix2 i k) := by
  refine congrArg lim (funext fun a => Fin.ext ?_)
  have hz : ∀ a, ((Shape.Idx.first (numel1_S1x1.symm ▸ Nat.one_pos) : S1x1.Idx) a).val = 0 := by decide
  fin_cases a
  · show o 0 + 1 * _ = i.val; rw [hz, h0]; rfl
  · show o 1 + 1 * _ = k.val; rw [hz, h1]; rfl

theorem off0 : ∀ t : Fin grid0.N, (k0_off1 (grid0.coords t) 0 = t.val ∧ k0_off1 (grid0.coords t) 1 = 0)
    ∧ (k0_off2 (grid0.coords t) 0 = t.val ∧ k0_off2 (grid0.coords t) 1 = 1) := by decide +kernel

theorem fst0_eq (t : Fin cfg0.N) : fst0 V c t = V c main_v8 (ix2 (⟨t.val, t.isLt⟩ : Fin 25) 0) :=
  (limWord_eq _ _ _ ⟨t.val, t.isLt⟩ 0 (off0 t).1.1 (off0 t).1.2).trans (lim0_apply V c t _ _)
theorem lst0_eq (t : Fin cfg0.N) : lst0 V c t = V c main_v8 (ix2 (⟨t.val, t.isLt⟩ : Fin 25) 1) :=
  (limWord_eq _ _ _ ⟨t.val, t.isLt⟩ 1 (off0 t).2.1 (off0 t).2.2).trans (lim0_apply V c t _ _)

/-- The first region's side conditions hold when the first segment numbers are in range. -/
theorem good0_of (h : ∀ c (i : Fin 25), (V c main_v8 (ix2 i 0)).toNat < 512) : Good0 V := fun c t => by
  rw [fst0_eq]; exact ⟨chk1_of _ (h c _), chk2_of _ _ (h c _)⟩

theorem off1 : ∀ t : Fin grid1.N,
    (k1_off1 (grid1.coords t) 0 = t.val * 5 + 0 ∧ k1_off1 (grid1.coords t) 1 = 0) ∧ (k1_off2 (grid1.coords t) 0 = t.val * 5 + 0 ∧ k1_off2 (grid1.coords t) 1 = 1)
    ∧ (k1_off4 (grid1.coords t) 0 = t.val * 5 + 1 ∧ k1_off4 (grid1.coords t) 1 = 0) ∧ (k1_off5 (grid1.coords t) 0 = t.val * 5 + 1 ∧ k1_off5 (grid1.coords t) 1 = 1)
    ∧ (k1_off7 (grid1.coords t) 0 = t.val * 5 + 2 ∧ k1_off7 (grid1.coords t) 1 = 0) ∧ (k1_off8 (grid1.coords t) 0 = t.val * 5 + 2 ∧ k1_off8 (grid1.coords t) 1 = 1)
    ∧ (k1_off10 (grid1.coords t) 0 = t.val * 5 + 3 ∧ k1_off10 (grid1.coords t) 1 = 0) ∧ (k1_off11 (grid1.coords t) 0 = t.val * 5 + 3 ∧ k1_off11 (grid1.coords t) 1 = 1)
    ∧ (k1_off13 (grid1.coords t) 0 = t.val * 5 + 4 ∧ k1_off13 (grid1.coords t) 1 = 0) ∧ (k1_off14 (grid1.coords t) 0 = t.val * 5 + 4 ∧ k1_off14 (grid1.coords t) 1 = 1) := by
  decide +kernel

/-- A word of the second region's limits. -/
theorem lim1_word (t : Fin cfg1.N) (o : Fin 2 → ℕ) (inb) (j : Fin 5) (k : Fin 2) (h : o 0 = t.val * 5 + j.val ∧ o 1 = k.val) :
    limWord (lim1 V c t) o inb = V c main_v8 (ix2 (⟨t.val * 5 + j.val, by have : t.val < 5 := t.isLt; omega⟩ : Fin 25) k) :=
  (limWord_eq _ _ _ ⟨t.val * 5 + j.val, by have : t.val < 5 := t.isLt; omega⟩ k h.1 h.2).trans (lim1_apply V c t _ _)

/-- The second region's side conditions, likewise. -/
theorem good1_of (h : ∀ c (i : Fin 25), (V c main_v8 (ix2 i 0)).toNat < 512) : Good1 V := fun c t => by
  obtain ⟨a1, -, a2, -, a3, -, a4, -, a5, -⟩ := off1 t
  rw [lim1_word V c t (k1_off1 _) _ 0 0 a1, lim1_word V c t (k1_off4 _) _ 1 0 a2, lim1_word V c t (k1_off7 _) _ 2 0 a3,
    lim1_word V c t (k1_off10 _) _ 3 0 a4, lim1_word V c t (k1_off13 _) _ 4 0 a5]
  exact ⟨chk1_of _ (h c _), chk2'_of _ _ (h c _), chk1_of _ (h c _), chk2'_of _ _ (h c _), chk1_of _ (h c _), chk2'_of _ _ (h c _),
    chk1_of _ (h c _), chk2'_of _ _ (h c _), chk1_of _ (h c _), chk2'_of _ _ (h c _)⟩

end Cert.KernelIdeal.Hand

end
-- ==== Proof.Good.lean ====
module

public import proofs.«01_k».proof.Proof.Host
public import proofs.«01_k».proof.Proof.Blocks
public import Idealize.ShloMosaic.Lib.ReduceAll
public import proofs.«01_k».proof.Pre_ids_in_range

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The table of limits holds the first and last segment number of each row of 4000; with segment numbers in range the
kernel runs and keeps its arguments. -/

variable (m : (ℓ : Loc nD τ sig) → Buf (Elt F) ℓ) (ρ : Dev nD → PrngReg) (c : Dev nD)

/-- The segment number of node `r` of block `t`. -/
abbrev idAt (t : Fin 25) (r : Fin 4000) : BitVec 32 := batch m c (ix1 (⟨t.val * 4000 + r.val, by omega⟩ : Fin 100000))

theorem v8_first (t : Fin 25) : W1 m c main_v8 (ix2 t 0) = idAt m c t 0 := by
  rw [W1_v8]; pointwise; rfl
theorem v8_last (t : Fin 25) : W1 m c main_v8 (ix2 t 1) = idAt m c t ⟨3999, by decide⟩ := by
  rw [W1_v8]; pointwise; rfl
theorem v1_apply (t : Fin 25) (r : Fin 4000) : W1 m c main_v1 (ix3 t 0 r) = idAt m c t r := by
  rw [W1_v1]; pointwise

/-- The second region reads the host values the first one read. -/
theorem B2_v8 : B2 m c main_v8 = W1 m c main_v8 :=
  Pipeline.afterRegion_keeps (dat0 (B1 m) c) (W1 m c) launch0.win.arr_inj (fun w => A0_eq (B1 m) c w) main_v8 (by decide)
theorem B2_v1 : B2 m c main_v1 = W1 m c main_v1 :=
  Pipeline.afterRegion_keeps (dat0 (B1 m) c) (W1 m c) launch0.win.arr_inj (fun w => A0_eq (B1 m) c w) main_v1 (by decide)

/-- All segment numbers name one of the 512 segments. -/
def InRange : Prop := ∀ (c : Dev nD) (i : Fin 100000), (batch m c (ix1 i)).toNat < 512

variable {m}

theorem good0 (h : InRange m) : Good0 (B1 m) := good0_of _ fun c t => by
  show (W1 m c main_v8 _).toNat < 512; rw [v8_first]; exact h c _
theorem good1 (h : InRange m) : Good1 (B2 m) := good1_of _ fun c t => by
  rw [B2_v8, v8_first]; exact h c _

/-- A launch with segment numbers in range runs, and ends with its arguments as launched and its semaphores at zero. -/
theorem frame_main (h : InRange m) :
    θ_run defs (onTc (τ := τ) (main (F := F))) ⟨m, fun _ => 0, ρ⟩ (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11)) ∧ r.2.sem = fun _ => 0) := by
  refine θ_run_mono (run_main m ρ (good0 h) (good1 h)) fun r hr => ⟨fun c => ?_, hr.2⟩
  refine ⟨(hr.1 c main_arg0 rfl).trans (W4_kept m c _ (by decide) (by decide) (by decide) (by decide)), (hr.1 c main_arg1 rfl).trans (W4_kept m c _ (by decide) (by decide) (by decide) (by decide)), (hr.1 c main_arg2 rfl).trans (W4_kept m c _ (by decide) (by decide) (by decide) (by decide)), (hr.1 c main_arg3 rfl).trans (W4_kept m c _ (by decide) (by decide) (by decide) (by decide)), (hr.1 c main_arg4 rfl).trans (W4_kept m c _ (by decide) (by decide) (by decide) (by decide)), (hr.1 c main_arg5 rfl).trans (W4_kept m c _ (by decide) (by decide) (by decide) (by decide)), (hr.1 c main_arg6 rfl).trans (W4_kept m c _ (by decide) (by decide) (by decide) (by decide)), (hr.1 c main_arg7 rfl).trans (W4_kept m c _ (by decide) (by decide) (by decide) (by decide)), (hr.1 c main_arg8 rfl).trans (W4_kept m c _ (by decide) (by decide) (by decide) (by decide)), (hr.1 c main_arg9 rfl).trans (W4_kept m c _ (by decide) (by decide) (by decide) (by decide)), (hr.1 c main_arg10 rfl).trans (W4_kept m c _ (by decide) (by decide) (by decide) (by decide)), (hr.1 c main_arg11 rfl).trans (W4_kept m c _ (by decide) (by decide) (by decide) (by decide))⟩

end Cert.KernelIdeal.Hand

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import proofs.«01_k».proof.Proof.Good
public import proofs.«01_k».proof.Proof.Bits.Good

@[expose] public section

set_option maxRecDepth 16384

noncomputable section

namespace Cert.Frames

open Idealize.ShloMosaic Idealize.SL.Sem

/-- The side conditions the precondition's own operations take. -/
theorem ids_facts : Cert.Pre_ids_in_range.Facts where
  bcast_S_S100000 := by decide
  reducesTo_S100000_S_d0 := by decide
  h_S_ := by decide

/-- A word at least 0 and less than 512 as signed numbers is less than 512 unsigned. -/
theorem toNat_lt (x : BitVec 32) (h0 : (0#32).toInt ≤ x.toInt) (h1 : x.toInt < (512#32).toInt) : x.toNat < 512 := by
  have e0 : (0#32).toInt = 0 := by decide
  have e1 : (512#32).toInt = 512 := by decide
  rw [e0] at h0; rw [e1] at h1
  rw [BitVec.toInt_eq_toNat_cond] at h0 h1
  split at h0 <;> omega

/-- The predicate "every segment number lies in [0, 512)" read at one number. -/
theorem ids_lt {F : FTy → Type} [FloatOps F] [Cert.Pre_ids_in_range.Facts] (x ids a2 a3 a4 a5 a6 a7 a8 a9 a10 a11)
    (h : Cert.Pre_ids_in_range.fn (F := F) x ids a2 a3 a4 a5 a6 a7 a8 a9 a10 a11 = fun _ => 1#1) (i) : (ids i).toNat < 512 := by
  have e := congrFun h (Shape.Idx.first Cert.Pre_ids_in_range.Facts.h_S_)
  dsimp only [Cert.Pre_ids_in_range.fn] at e
  have e' := Host.reduce_andi_all _ _ _ _ _ e i
  obtain ⟨e0, e1⟩ := IntOp.andi_eq_one.1 e'
  exact toNat_lt _ (IntOp.cmpi_sge.1 e0) (IntOp.cmpi_slt.1 e1)

theorem kernelIdeal : Cert.quiescent_KernelIdeal (hKernelIdeal := Cert.KernelIdeal.Gen.facts) (hPre_ids_in_range := ids_facts) :=
  fun m g h => Cert.KernelIdeal.Hand.frame_main (F := Ideal) (m := m) g fun c i => @ids_lt _ _ ids_facts _ _ _ _ _ _ _ _ _ _ _ _ (h c) _

theorem kernel : Cert.quiescent_Kernel (hKernel := Cert.Kernel.Gen.facts) (hPre_ids_in_range := ids_facts) :=
  fun m g h => Cert.Kernel.Hand.frame_main (F := Bits) (m := m) g fun c i => @ids_lt _ _ ids_facts _ _ _ _ _ _ _ _ _ _ _ _ (h c) _

theorem reference : Cert.quiescent_ReferenceIdeal (hReferenceIdeal := Cert.ReferenceIdeal.Gen.facts) :=
  fun m g _ => θ_run_mono (Cert.ReferenceIdeal.Value.run m g) fun r h => ⟨fun c => (h c).2.2, sem_eq_zero_of_no_sems (by decide) _⟩

end Cert.Frames

end
-- ==== Proof.Pay0.lean ====
module

public import proofs.«01_k».proof.Proof.Words
public import proofs.«01_k».proof.Proof.Region1
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the first region's payloads hold, entry by entry, over the extended reals. -/

variable (x : S4000x512.Idx → Ideal .f32) (wc : S512x1280.Idx → Ideal .f32) (w2 : S1x256.Idx → Ideal .f32) (g2 : S1x512.Idx → Ideal .f32)
  (b : S1x1x4000.Idx → BitVec 32)

theorem pay9_apply (r : Fin 4000) (k : Fin 1280) : k0_pay9 (F := Ideal) x wc (ix2 r k) = max (∑ d : Fin 512, x (ix2 r d) * wc (ix2 d k)) 0 := by
  pointwise [k0_pay9]
theorem pay10_apply (r : Fin 4000) (k : Fin 512) :
    k0_pay10 (F := Ideal) x wc (ix2 r k) = k0_pay9 (F := Ideal) x wc (ix2 r (⟨256 + k.val, by omega⟩ : Fin 1280)) := by
  pointwise [k0_pay10]
theorem pay11_apply (r : Fin 4000) : k0_pay11 (F := Ideal) x wc w2 (ix2 0 r)
    = Ideal.exp (∑ k : Fin 256, w2 (ix2 0 k) * k0_pay9 (F := Ideal) x wc (ix2 r (⟨k.val, by omega⟩ : Fin 1280))) := by
  pointwise [k0_pay11]
theorem pay12_apply (r : Fin 4000) : k0_pay12 (F := Ideal) x wc g2 (ix2 0 r)
    = Ideal.exp (∑ k : Fin 512, g2 (ix2 0 k) * k0_pay9 (F := Ideal) x wc (ix2 r (⟨768 + k.val, by omega⟩ : Fin 1280))) := by
  pointwise [k0_pay12]
theorem pay13_apply (r : Fin 4000) : k0_pay13 (F := Ideal) x wc g2 (ix3 0 0 r) = k0_pay12 (F := Ideal) x wc g2 (ix2 0 r) := by
  pointwise [k0_pay13]
theorem pay14_apply0 (r : Fin 4000) : k0_pay14 (F := Ideal) x wc w2 g2 (ix2 0 r) = k0_pay11 (F := Ideal) x wc w2 (ix2 0 r) := by
  pointwise [k0_pay14]
theorem pay14_apply1 (r : Fin 4000) : k0_pay14 (F := Ideal) x wc w2 g2 (ix2 1 r) = k0_pay12 (F := Ideal) x wc g2 (ix2 0 r) := by
  pointwise [k0_pay14]
theorem pay15_apply (r : Fin 4000) : k0_pay15 (F := Ideal) b (ix2 0 r) = b (ix3 0 0 r) := by
  pointwise [k0_pay15]

/-- A choice by equality of words. -/
theorem select_eq (p q : BitVec 32) (s t : Ideal .f32) : Scalar.select (IntOp.cmpi .eq p q) s t = if q = p then s else t := by
  unfold Scalar.select
  by_cases h : q = p
  · rw [if_pos h]; exact if_pos (IntOp.cmpi_eq.2 h.symm)
  · rw [if_neg h]; exact if_neg fun e => h (IntOp.cmpi_eq.1 e).symm

theorem pay1_apply (v : S1x4000.Idx → BitVec 32) (f : BitVec 32) (p : Fin 32) (r : Fin 4000) :
    k0_pay1 (F := Ideal) v f (ix2 p r) = if v (ix2 0 r) = BitVec.ofNat 32 p.val + base f then 1 else 0 := by
  pointwise [k0_pay1]; rw [select_eq]; rfl
theorem pay4_apply (v : S1x4000.Idx → BitVec 32) (s : Fin 512) (r : Fin 4000) :
    k0_pay4 (F := Ideal) v (ix2 s r) = if v (ix2 0 r) = BitVec.ofNat 32 s.val then 1 else 0 := by
  pointwise [k0_pay4]; rw [select_eq]

variable (v : S1x4000.Idx → BitVec 32) (y : S4000x512.Idx → Ideal .f32) (e : S1x4000.Idx → Ideal .f32) (e8 : S8x4000.Idx → Ideal .f32)

theorem pay2_apply (f : BitVec 32) (a : S1x32x512.Idx → Ideal .f32) (p : Fin 32) (k : Fin 512) :
    k0_pay2 (F := Ideal) y e v f a (ix3 0 p k) = a (ix3 0 p k) + ∑ r : Fin 4000, k0_pay1 (F := Ideal) v f (ix2 p r) * e (ix2 0 r) * y (ix2 r k) := by
  pointwise [k0_pay2]
theorem pay5_apply (a : S1x512x512.Idx → Ideal .f32) (s : Fin 512) (k : Fin 512) :
    k0_pay5 (F := Ideal) y e v a (ix3 0 s k) = a (ix3 0 s k) + ∑ r : Fin 4000, k0_pay4 (F := Ideal) v (ix2 s r) * e (ix2 0 r) * y (ix2 r k) := by
  pointwise [k0_pay5]
theorem pay3_apply (f : BitVec 32) (a : S1x32x8.Idx → Ideal .f32) (p : Fin 32) (k : Fin 8) :
    k0_pay3 (F := Ideal) e8 v f a (ix3 0 p k) = a (ix3 0 p k) + ∑ r : Fin 4000, k0_pay1 (F := Ideal) v f (ix2 p r) * e8 (ix2 k r) := by
  pointwise [k0_pay3]
theorem pay6_apply (a : S1x512x8.Idx → Ideal .f32) (s : Fin 512) (k : Fin 8) :
    k0_pay6 (F := Ideal) e8 v a (ix3 0 s k) = a (ix3 0 s k) + ∑ r : Fin 4000, k0_pay4 (F := Ideal) v (ix2 s r) * e8 (ix2 k r) := by
  pointwise [k0_pay6]

end Cert.KernelIdeal.Hand

end
-- ==== Proof.Step0.lean ====
module

public import proofs.«01_k».proof.Proof.Pay0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! One point's update of the accumulators: every segment's row gains the sum over the point's nodes of that segment,
whether the update was made on the narrow window or on the whole array. -/

/-- A window of 32 rows put into an array of 512 rows, read at an entry. -/
theorem put_rows {α : Type} {n : ℕ} (B : ℕ) (a : (⟨3, ![1, 512, n]⟩ : Shape).Idx → α) (w : (⟨3, ![1, 32, n]⟩ : Shape).Idx → α) (s : Fin 512) (k : Fin n) :
    VecWindow.put a ![0, B, 0] ![1, 32, n] w (ix3 0 s k)
      = if h : B ≤ s.val ∧ s.val < B + 32 then w (ix3 0 (⟨s.val - B, by omega⟩ : Fin 32) k) else a (ix3 0 s k) := by
  unfold VecWindow.put
  by_cases h : B ≤ s.val ∧ s.val < B + 32
  · rw [dif_pos h, dif_pos]
    · refine congrArg w (funext fun i => Fin.ext ?_)
      fin_cases i
      · rfl
      · rfl
      · show k.val - 0 = k.val; omega
    · intro i; fin_cases i
      · exact ⟨Nat.zero_le _, by show 0 < 0 + 1; omega⟩
      · exact h
      · exact ⟨Nat.zero_le _, by show k.val < 0 + n; omega⟩
  · rw [dif_neg h, dif_neg]
    exact fun g => h (g (1 : Fin 3))
/-- The window of 32 rows read at an entry. -/
theorem window_rows {α : Type} {n : ℕ} (B : ℕ) (a : (⟨3, ![1, 512, n]⟩ : Shape).Idx → α) (inb) (p : Fin 32) (k : Fin n) (hB : B + 32 ≤ 512) :
    VecWindow.window a ![0, B, 0] ![1, 32, n] inb (ix3 0 p k) = a (ix3 0 (⟨B + p.val, by omega⟩ : Fin 512) k) := by
  refine congrArg a (funext fun i => Fin.ext ?_)
  fin_cases i
  · rfl
  · show B + 1 * p.val = B + p.val; omega
  · show 0 + 1 * k.val = k.val; omega

/-- A segment's indicator at a node's segment number. -/
abbrev hit (w : BitVec 32) (s : Fin 512) : Ideal .f32 := if w = BitVec.ofNat 32 s.val then 1 else 0

/-- The window's row naming segment `s`. -/
theorem row_word (f : BitVec 32) (hf : f.toNat < 512) (s : Fin 512) (h : (base f).toNat ≤ s.val) :
    BitVec.ofNat 32 (s.val - (base f).toNat) + base f = BitVec.ofNat 32 s.val := by
  apply BitVec.eq_of_toNat_eq
  have := base_le f hf
  rw [BitVec.toNat_add, BitVec.toNat_ofNat, BitVec.toNat_ofNat]; omega

variable (f l : BitVec 32) (x : S4000x512.Idx → Ideal .f32) (b : S1x1x4000.Idx → BitVec 32) (wc : S512x1280.Idx → Ideal .f32)
  (w2 : S1x256.Idx → Ideal .f32) (g2 : S1x512.Idx → Ideal .f32)

/-- The block's segment numbers lie between its first and its last. -/
structure Sorted : Prop where
  fst : f.toNat < 512
  lst : l.toNat < 512
  low : ∀ r : Fin 4000, f.toNat ≤ (b (ix3 0 0 r)).toNat
  high : ∀ r : Fin 4000, (b (ix3 0 0 r)).toNat ≤ l.toNat

variable {f l b}

/-- No node of the block lies in a segment outside the narrow window. -/
theorem hit_outside (hs : Sorted f l b) (hc : k0_cond2 f l = 1#1) (s : Fin 512) (h : ¬((base f).toNat ≤ s.val ∧ s.val < (base f).toNat + 32)) (r : Fin 4000) :
    hit (b (ix3 0 0 r)) s = 0 := by
  refine if_neg fun e => h ?_
  have h1 := hs.low r
  have h2 := hs.high r
  rw [e, BitVec.toNat_ofNat, Nat.mod_eq_of_lt (by omega)] at h1 h2
  have h3 := (cond2_iff f l hs.fst hs.lst).1 hc
  have h4 := base_le_self f hs.fst
  omega

theorem step8_apply (hs : Sorted f l b) (a : S1x512x512.Idx → Ideal .f32) (s : Fin 512) (k : Fin 512) :
    step8 f l x b wc w2 a (ix3 0 s k) = a (ix3 0 s k)
      + ∑ r : Fin 4000, hit (b (ix3 0 0 r)) s * k0_pay11 x wc w2 (ix2 0 r) * k0_pay10 x wc (ix2 r k) := by
  unfold step8
  by_cases hn : narrow0 f l
  · rw [dif_pos hn]
    refine (put_rows (base f).toNat a _ s k).trans ?_
    by_cases h : (base f).toNat ≤ s.val ∧ s.val < (base f).toNat + 32
    · rw [dif_pos h]
      refine (pay2_apply _ _ _ f _ _ k).trans ?_
      refine congrArg₂ (· + ·) ((window_rows (base f).toNat a _ _ k (by have := base_le f hs.fst; omega)).trans ?_) ?_
      · exact congrArg a (congrArg (fun z : Fin 512 => (ix3 0 z k : S1x512x512.Idx)) (Fin.ext (by show (base f).toNat + (s.val - (base f).toNat) = s.val; omega)))
      · refine Finset.sum_congr rfl fun r _ => ?_
        rw [pay1_apply, pay15_apply, row_word f hs.fst s h.1]
    · rw [dif_neg h, Finset.sum_eq_zero, add_zero]
      intro r _
      rw [hit_outside hs hn.2 s h r, zero_mul, zero_mul]
  · rw [dif_neg hn, pay5_apply]
    refine congrArg (a (ix3 0 s k) + ·) (Finset.sum_congr rfl fun r _ => ?_)
    rw [pay4_apply, pay15_apply]

theorem step9_apply (hs : Sorted f l b) (a : S1x512x8.Idx → Ideal .f32) (s : Fin 512) (k : Fin 8) :
    step9 f l x b wc w2 g2 a (ix3 0 s k) = a (ix3 0 s k)
      + ∑ r : Fin 4000, hit (b (ix3 0 0 r)) s * k0_pay14 x wc w2 g2 (ix2 k r) := by
  unfold step9
  by_cases hn : narrow0 f l
  · rw [dif_pos hn]
    refine (put_rows (base f).toNat a _ s k).trans ?_
    by_cases h : (base f).toNat ≤ s.val ∧ s.val < (base f).toNat + 32
    · rw [dif_pos h]
      refine (pay3_apply _ _ f _ _ k).trans ?_
      refine congrArg₂ (· + ·) ((window_rows (base f).toNat a _ _ k (by have := base_le f hs.fst; omega)).trans ?_) ?_
      · exact congrArg a (congrArg (fun z : Fin 512 => (ix3 0 z k : S1x512x8.Idx)) (Fin.ext (by show (base f).toNat + (s.val - (base f).toNat) = s.val; omega)))
      · refine Finset.sum_congr rfl fun r _ => ?_
        rw [pay1_apply, pay15_apply, row_word f hs.fst s h.1]
    · rw [dif_neg h, Finset.sum_eq_zero, add_zero]
      intro r _
      rw [hit_outside hs hn.2 s h r, zero_mul]
  · rw [dif_neg hn, pay6_apply]
    refine congrArg (a (ix3 0 s k) + ·) (Finset.sum_congr rfl fun r _ => ?_)
    rw [pay4_apply, pay15_apply]

end Cert.KernelIdeal.Hand

end
-- ==== Proof.Acc.lean ====
module

public import proofs.«01_k».proof.Proof.Step0
public import proofs.«01_k».proof.Proof.Good

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the first region leaves: per segment, the sums over all nodes. -/

variable (m : (ℓ : Loc nD τ sig) → Buf (Elt Ideal) ℓ) (c : Dev nD)

/-! ## The quantities of one node -/

abbrev aX : S100000x512.Idx → Ideal .f32 := m ((c : Thread nD τ).loc main_arg0)
abbrev aG : S512x256.Idx → Ideal .f32 := m ((c : Thread nD τ).loc main_arg2)
abbrev aG2 : S256x1.Idx → Ideal .f32 := m ((c : Thread nD τ).loc main_arg4)
abbrev aN : S512x512.Idx → Ideal .f32 := m ((c : Thread nD τ).loc main_arg6)
abbrev aA : S512x512.Idx → Ideal .f32 := m ((c : Thread nD τ).loc main_arg8)
abbrev aA2 : S512x8.Idx → Ideal .f32 := m ((c : Thread nD τ).loc main_arg10)
/-- A node's segment number. -/
abbrev nid (i : Fin 100000) : BitVec 32 := batch m c (ix1 i)

/-- A node's gate features. -/
def gh (i : Fin 100000) (k : Fin 256) : Ideal .f32 := max (∑ d : Fin 512, aX m c (ix2 i d) * aG m c (ix2 d k)) 0
/-- A node's transformed features. -/
def xt (i : Fin 100000) (k : Fin 512) : Ideal .f32 := max (∑ d : Fin 512, aX m c (ix2 i d) * aN m c (ix2 d k)) 0
/-- A node's attention features. -/
def gs (i : Fin 100000) (k : Fin 512) : Ideal .f32 := max (∑ d : Fin 512, aX m c (ix2 i d) * aA m c (ix2 d k)) 0
/-- The averaged second attention weights. -/
def am (k : Fin 512) : Ideal .f32 := W1 m c main_v15 (ix2 0 k)
/-- The exponential of a node's gate. -/
def e1 (i : Fin 100000) : Ideal .f32 := Ideal.exp (∑ k : Fin 256, aG2 m c (ix2 k 0) * gh m c i k)
/-- The exponential of a node's attention score. -/
def e2 (i : Fin 100000) : Ideal .f32 := Ideal.exp (∑ k : Fin 512, am m c k * gs m c i k)

/-- Node `r` of block `t`. -/
abbrev nd (t : Fin 25) (r : Fin 4000) : Fin 100000 := ⟨t.val * 4000 + r.val, by omega⟩

/-- A sum over blocks and nodes of a block is a sum over nodes. -/
theorem sum_nodes (T : Fin 100000 → Ideal .f32) : ∑ t : Fin 25, ∑ r : Fin 4000, T (nd t r) = ∑ i : Fin 100000, T i := by
  refine (Fintype.sum_prod_type' (fun t r => T (nd t r))).symm.trans ?_
  exact Fintype.sum_equiv (finProdFinEquiv (m := 25) (n := 4000)) _ _ fun p => congrArg T (Fin.ext (by
    show p.1.val * 4000 + p.2.val = p.2.val + 4000 * p.1.val; omega))

/-! ## A block's payloads in those terms -/

theorem W1_v9_G (d : Fin 512) (k : Fin 256) : W1 m c main_v9 (ix2 d (⟨k.val, by omega⟩ : Fin 1280)) = aG m c (ix2 d k) := by
  rw [W1_v9]; pointwise
theorem W1_v9_N (d : Fin 512) (k : Fin 512) : W1 m c main_v9 (ix2 d (⟨256 + k.val, by omega⟩ : Fin 1280)) = aN m c (ix2 d k) := by
  rw [W1_v9]; pointwise
theorem W1_v9_A (d : Fin 512) (k : Fin 512) : W1 m c main_v9 (ix2 d (⟨768 + k.val, by omega⟩ : Fin 1280)) = aA m c (ix2 d k) := by
  rw [W1_v9]; pointwise
  rw [dif_neg (by omega), dif_neg (by omega)]
  exact congrArg (fun z : Fin 512 => aA m c (ix2 d z)) (Fin.ext (by show 768 + k.val - 256 - 512 = k.val; omega))
theorem W1_v10_apply (k : Fin 256) : W1 m c main_v10 (ix2 0 k) = aG2 m c (ix2 k 0) := by
  rw [W1_v10]; pointwise

variable (t : Fin cfg0.N) (r : Fin 4000)
/-- The point's number as a block number. -/
abbrev tb (t : Fin cfg0.N) : Fin 25 := ⟨t.val, t.isLt⟩

theorem p9_G (k : Fin 256) : k0_pay9 (F := Ideal) (x0 (B1 m) c t) (wc0 (B1 m) c t) (ix2 r (⟨k.val, by omega⟩ : Fin 1280)) = gh m c (nd (tb t) r) k := by
  rw [pay9_apply]; unfold gh
  refine congrArg (max · 0) (Finset.sum_congr rfl fun d _ => congrArg₂ (· * ·) ((x0_apply _ c t r d).trans (congrFun (W1_arg0 m c) _)) ?_)
  exact (wc0_apply _ c t d _).trans (W1_v9_G m c d k)
theorem p9_N (k : Fin 512) : k0_pay9 (F := Ideal) (x0 (B1 m) c t) (wc0 (B1 m) c t) (ix2 r (⟨256 + k.val, by omega⟩ : Fin 1280)) = xt m c (nd (tb t) r) k := by
  rw [pay9_apply]; unfold xt
  refine congrArg (max · 0) (Finset.sum_congr rfl fun d _ => congrArg₂ (· * ·) ((x0_apply _ c t r d).trans (congrFun (W1_arg0 m c) _)) ?_)
  exact (wc0_apply _ c t d _).trans (W1_v9_N m c d k)
theorem p9_A (k : Fin 512) : k0_pay9 (F := Ideal) (x0 (B1 m) c t) (wc0 (B1 m) c t) (ix2 r (⟨768 + k.val, by omega⟩ : Fin 1280)) = gs m c (nd (tb t) r) k := by
  rw [pay9_apply]; unfold gs
  refine congrArg (max · 0) (Finset.sum_congr rfl fun d _ => congrArg₂ (· * ·) ((x0_apply _ c t r d).trans (congrFun (W1_arg0 m c) _)) ?_)
  exact (wc0_apply _ c t d _).trans (W1_v9_A m c d k)

theorem p10_eq (k : Fin 512) : k0_pay10 (F := Ideal) (x0 (B1 m) c t) (wc0 (B1 m) c t) (ix2 r k) = xt m c (nd (tb t) r) k := by
  rw [pay10_apply, p9_N]
theorem p11_eq : k0_pay11 (F := Ideal) (x0 (B1 m) c t) (wc0 (B1 m) c t) (w20 (B1 m) c t) (ix2 0 r) = e1 m c (nd (tb t) r) := by
  rw [pay11_apply]; unfold e1
  refine congrArg Ideal.exp (Finset.sum_congr rfl fun k _ => congrArg₂ (· * ·) ((w20_apply _ c t k).trans (W1_v10_apply m c k)) (p9_G m c t r k))
theorem p12_eq : k0_pay12 (F := Ideal) (x0 (B1 m) c t) (wc0 (B1 m) c t) (g20 (B1 m) c t) (ix2 0 r) = e2 m c (nd (tb t) r) := by
  rw [pay12_apply]; unfold e2
  refine congrArg Ideal.exp (Finset.sum_congr rfl fun k _ => congrArg₂ (· * ·) (g20_apply _ c t k) (p9_A m c t r k))
theorem b0_eq : b0 (B1 m) c t (ix3 0 0 r) = nid m c (nd (tb t) r) :=
  (b0_apply _ c t r).trans (v1_apply m c (tb t) r)

/-! ## The accumulators -/

/-- The segment numbers ascend. -/
def Ordered : Prop := ∀ (c : Dev nD) (i j : Fin 100000), i.val ≤ j.val → (nid m c i).toNat ≤ (nid m c j).toNat

variable {m}

theorem block_sorted (hr : InRange m) (ho : Ordered m) : Sorted (fst0 (B1 m) c t) (lst0 (B1 m) c t) (b0 (B1 m) c t) := by
  have e1 : fst0 (B1 m) c t = nid m c (nd (tb t) 0) := (fst0_eq _ c t).trans (v8_first m c (tb t))
  have e2 : lst0 (B1 m) c t = nid m c (nd (tb t) ⟨3999, by decide⟩) := (lst0_eq _ c t).trans (v8_last m c (tb t))
  refine ⟨?_, ?_, fun r => ?_, fun r => ?_⟩
  · rw [e1]; exact hr c _
  · rw [e2]; exact hr c _
  · rw [e1, b0_eq]; exact ho c _ _ (by show _ + 0 ≤ _ + r.val; omega)
  · rw [e2, b0_eq]; exact ho c _ _ (by show _ + r.val ≤ _ + 3999; omega)

theorem pay7_zero (j) : k0_pay7 (F := Ideal) j = 0 := by pointwise [k0_pay7]
theorem pay8_zero (j) : k0_pay8 (F := Ideal) j = 0 := by pointwise [k0_pay8]

theorem acc0_apply (hr : InRange m) (ho : Ordered m) (s k : Fin 512) : ∀ (n : ℕ) (h : n < cfg0.N), acc0 (B1 m) c n h (ix3 0 s k)
    = ∑ t : Fin (n + 1), ∑ r : Fin 4000, hit (nid m c (nd ⟨t.val, by have : n < 25 := h; omega⟩ r)) s
        * e1 m c (nd ⟨t.val, by have : n < 25 := h; omega⟩ r) * xt m c (nd ⟨t.val, by have : n < 25 := h; omega⟩ r) k
  | 0, h => by
    refine (step8_apply _ _ _ (block_sorted c ⟨0, h⟩ hr ho) _ s k).trans ?_
    rw [pay7_zero, zero_add, Fin.sum_univ_one]
    exact Finset.sum_congr rfl fun r _ => by rw [b0_eq, p10_eq, p11_eq]; rfl
  | n + 1, h => by
    refine (step8_apply _ _ _ (block_sorted c ⟨n + 1, h⟩ hr ho) _ s k).trans ?_
    rw [acc0_apply hr ho s k n (by omega)]
    refine .trans ?_ (Fin.sum_univ_castSucc _).symm
    refine congrArg₂ (HAdd.hAdd (α := EReal) (β := EReal) (γ := EReal)) rfl ?_
    exact Finset.sum_congr rfl fun r _ => by rw [b0_eq, p10_eq, p11_eq]; rfl

/-- After the last point, a segment's row of the accumulator. -/
theorem acc0_last (hr : InRange m) (ho : Ordered m) (s k : Fin 512) (h : 24 < cfg0.N) : acc0 (B1 m) c 24 h (ix3 0 s k)
    = ∑ i : Fin 100000, hit (nid m c i) s * e1 m c i * xt m c i k :=
  (acc0_apply c hr ho s k 24 h).trans (sum_nodes fun i => hit (nid m c i) s * e1 m c i * xt m c i k)

theorem den0_apply (hr : InRange m) (ho : Ordered m) (s : Fin 512) (k : Fin 8) (E : Fin 100000 → Ideal .f32)
    (hE : ∀ (t : Fin cfg0.N) (r : Fin 4000), k0_pay14 (F := Ideal) (x0 (B1 m) c t) (wc0 (B1 m) c t) (w20 (B1 m) c t) (g20 (B1 m) c t) (ix2 k r) = E (nd (tb t) r)) :
    ∀ (n : ℕ) (h : n < cfg0.N), den0 (B1 m) c n h (ix3 0 s k)
    = ∑ t : Fin (n + 1), ∑ r : Fin 4000, hit (nid m c (nd ⟨t.val, by have : n < 25 := h; omega⟩ r)) s
        * E (nd ⟨t.val, by have : n < 25 := h; omega⟩ r)
  | 0, h => by
    refine (step9_apply _ _ _ _ (block_sorted c ⟨0, h⟩ hr ho) _ s k).trans ?_
    rw [pay8_zero, zero_add, Fin.sum_univ_one]
    exact Finset.sum_congr rfl fun r _ => by rw [b0_eq, hE]; rfl
  | n + 1, h => by
    refine (step9_apply _ _ _ _ (block_sorted c ⟨n + 1, h⟩ hr ho) _ s k).trans ?_
    rw [den0_apply hr ho s k E hE n (by omega)]
    refine .trans ?_ (Fin.sum_univ_castSucc _).symm
    refine congrArg₂ (HAdd.hAdd (α := EReal) (β := EReal) (γ := EReal)) rfl ?_
    exact Finset.sum_congr rfl fun r _ => by rw [b0_eq, hE]; rfl

/-- After the last point, a segment's two denominators. -/
theorem den0_last0 (hr : InRange m) (ho : Ordered m) (s : Fin 512) (h : 24 < cfg0.N) : den0 (B1 m) c 24 h (ix3 0 s 0)
    = ∑ i : Fin 100000, hit (nid m c i) s * e1 m c i :=
  (den0_apply c hr ho s 0 (e1 m c) (fun t r => (pay14_apply0 _ _ _ _ r).trans (p11_eq m c t r)) 24 h).trans
    (sum_nodes fun i => hit (nid m c i) s * e1 m c i)
theorem den0_last1 (hr : InRange m) (ho : Ordered m) (s : Fin 512) (h : 24 < cfg0.N) : den0 (B1 m) c 24 h (ix3 0 s 1)
    = ∑ i : Fin 100000, hit (nid m c i) s * e2 m c i :=
  (den0_apply c hr ho s 1 (e2 m c) (fun t r => (pay14_apply1 _ _ _ _ r).trans (p12_eq m c t r)) 24 h).trans
    (sum_nodes fun i => hit (nid m c i) s * e2 m c i)

end Cert.KernelIdeal.Hand

end
-- ==== Proof.Out0.lean ====
module

public import proofs.«01_k».proof.Proof.Acc

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The arrays the first region leaves. -/

variable (m : (ℓ : Loc nD τ sig) → Buf (Elt Ideal) ℓ) (c : Dev nD)

def t0_24 : Fin cfg0.N := ⟨24, by decide⟩

theorem after6 (V : Bufs Ideal) (t : Fin cfg0.N) : (dat0 V c).after 6 t = acc0 V c t.val t.isLt := rfl
theorem after7 (V : Bufs Ideal) (t : Fin cfg0.N) : (dat0 V c).after 7 t = den0 V c t.val t.isLt := rfl
theorem t0_24_val : t0_24.val = 24 := rfl

theorem arr6 : (dat0 (B1 m) c).arrAt 6 cfg0.N = acc0 (B1 m) c t0_24.val t0_24.isLt := by
  refine (dat0 (B1 m) c).arrAt_eq_of_after_last 6 t0_24 (by decide +kernel) _ fun j => ?_
  rw [after6]
  generalize acc0 (B1 m) c t0_24.val t0_24.isLt = A
  blk_simp
  rfl
theorem arr7 : (dat0 (B1 m) c).arrAt 7 cfg0.N = den0 (B1 m) c t0_24.val t0_24.isLt := by
  refine (dat0 (B1 m) c).arrAt_eq_of_after_last 7 t0_24 (by decide +kernel) _ fun j => ?_
  rw [after7]
  generalize den0 (B1 m) c t0_24.val t0_24.isLt = A
  blk_simp
  rfl

/-- The array of score exponentials, all nodes. -/
def e2All : S25x1x4000.Idx → Ideal .f32 := fun j => e2 m c (nd (j 0) (j 2))

theorem idx0_8 : ∀ t : Fin grid0.N, win0_8.index t = ![t.val, 0, 0] := by decide +kernel

theorem e20_apply (t : Fin cfg0.N) (r : Fin 4000) : e20 (B1 m) c t (ix3 0 0 r) = e2 m c (nd (tb t) r) :=
  (pay13_apply _ _ _ r).trans (p12_eq m c t r)

theorem arr8 : (dat0 (B1 m) c).arrAt 8 cfg0.N = e2All m c := by
  refine (dat0 (B1 m) c).arrAt_eq_of_covers 8 _ (by decide +kernel) fun t hf y => ?_
  blk_simp
  have hy : y = ix3 0 0 (y 2) := by
    funext a; fin_cases a
    · exact Subsingleton.elim (α := Fin 1) _ _
    · exact Subsingleton.elim (α := Fin 1) _ _
    · rfl
  have h1 : (dat0 (B1 m) c).after 8 t y = e2 m c (nd (tb t) (y 2)) := by
    rw [hy]; exact e20_apply m c t (y 2)
  refine h1.trans ?_
  unfold e2All
  have hy0 : (y 0).val = 0 := by have := (y 0).isLt; simpa using this
  refine congrArg (e2 m c) (Fin.ext ?_)
  have q0 : ((win0_8.blk t).view.emb y 0).val = t.val := by
    blk_simp [idx0_8]
  have q2 : ((win0_8.blk t).view.emb y 2).val = (y 2).val := by
    blk_simp [idx0_8]
  show t.val * 4000 + (y 2).val = ((win0_8.blk t).view.emb y 0).val * 4000 + ((win0_8.blk t).view.emb y 2).val
  rw [q0, q2]

theorem B2_acc : B2 m c main_v16_0 = acc0 (B1 m) c t0_24.val t0_24.isLt :=
  (Pipeline.afterRegion_arr (dat0 (B1 m) c) (W1 m c) launch0.win.arr_inj 6).trans (arr6 m c)
theorem B2_den : B2 m c main_v16_1 = den0 (B1 m) c t0_24.val t0_24.isLt :=
  (Pipeline.afterRegion_arr (dat0 (B1 m) c) (W1 m c) launch0.win.arr_inj 7).trans (arr7 m c)
theorem B2_e2 : B2 m c main_v16_2 = e2All m c :=
  (Pipeline.afterRegion_arr (dat0 (B1 m) c) (W1 m c) launch0.win.arr_inj 8).trans (arr8 m c)

end Cert.KernelIdeal.Hand

end
-- ==== Proof.Pay1.lean ====
module

public import proofs.«01_k».proof.Proof.Step0
public import proofs.«01_k».proof.Proof.Region1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the second region's payloads hold, entry by entry, over the extended reals: each segment's row is scaled by the
reciprocal of its denominator, and each node's weight is its exponential times its segment's reciprocal. -/

/-- The small number added to a denominator. -/
abbrev eps : Ideal .f32 := Scalar.ofBits .f32 0x24E69595#32

variable (d : S1x512x8.Idx → Ideal .f32) (a : S1x512x512.Idx → Ideal .f32)

theorem k1pay2_apply (s k : Fin 512) : k1_pay2 (F := Ideal) d a (ix2 s k) = a (ix3 0 s k) * Ideal.div 1 (d (ix3 0 s 0) + eps) := by
  pointwise [k1_pay2, k1_pay1]
theorem k1pay3_apply (s : Fin 512) : k1_pay3 (F := Ideal) d (ix2 s 0) = Ideal.div 1 (d (ix3 0 s 1) + eps) := by
  pointwise [k1_pay3, k1_pay1]

variable (f l : BitVec 32) (b : S1x1x4000.Idx → BitVec 32) (e : S1x1x4000.Idx → Ideal .f32)

theorem select_ite (x y : BitVec 32) (v : Ideal .f32) : Scalar.select (IntOp.cmpi .eq x y) v 0 = if y = x then v else 0 := by
  by_cases h : y = x
  · rw [if_pos h]; exact if_pos (IntOp.cmpi_eq.2 h.symm)
  · rw [if_neg h]; exact if_neg fun g => h (IntOp.cmpi_eq.1 g).symm

theorem k1pay6_apply (w : S32x1.Idx → Ideal .f32) (r : Fin 4000) : k1_pay6 (F := Ideal) f b e w (ix3 0 0 r)
    = e (ix3 0 0 r) * ∑ p : Fin 32, (if b (ix3 0 0 r) = BitVec.ofNat 32 p.val + base f then w (ix2 p 0) else 0) := by
  pointwise [k1_pay6, k1_pay4, k1_pay5]
  refine congrArg (e (ix3 0 0 r) * ·) (Finset.sum_congr rfl fun p _ => ?_)
  exact select_ite _ _ _
theorem k1pay7_apply (w : S512x1.Idx → Ideal .f32) (r : Fin 4000) : k1_pay7 (F := Ideal) b e w (ix3 0 0 r)
    = e (ix3 0 0 r) * ∑ s : Fin 512, (if b (ix3 0 0 r) = BitVec.ofNat 32 s.val then w (ix2 s 0) else 0) := by
  pointwise [k1_pay7, k1_pay4, k1_pay5]
  exact congrArg (e (ix3 0 0 r) * ·) (Finset.sum_congr rfl fun p _ => select_ite _ _ _)

/-- The window of 32 entries of the table read at an entry. -/
theorem window_col {α : Type} (B : ℕ) (w : S512x1.Idx → α) (inb) (p : Fin 32) (hB : B + 32 ≤ 512) :
    VecWindow.window w ![B, 0] S32x1.size inb (ix2 p 0) = w (ix2 (⟨B + p.val, by omega⟩ : Fin 512) 0) := by
  refine congrArg w (funext fun i => Fin.ext ?_)
  fin_cases i
  · show B + 1 * p.val = B + p.val; omega
  · rfl

variable {f l b}

/-- One block's weights at a node: its exponential times its segment's reciprocal. -/
theorem attRow_apply (hs : Sorted f l b) (rb : S512x1.Idx → Ideal .f32) (r : Fin 4000) (s : Fin 512)
    (hid : b (ix3 0 0 r) = BitVec.ofNat 32 s.val) :
    attRow f l b e rb (ix3 0 0 r) = e (ix3 0 0 r) * rb (ix2 s 0) := by
  have hB := base_le f hs.fst
  unfold attRow
  by_cases hn : k1_chk2 f l ∧ k1_cond2 f l = 1#1
  · rw [dif_pos hn]
    refine (k1pay6_apply f b e _ r).trans (congrArg (e (ix3 0 0 r) * ·) ?_)
    have h1 := hs.low r
    have h2 := hs.high r
    rw [hid, BitVec.toNat_ofNat, Nat.mod_eq_of_lt (by omega)] at h1 h2
    have h3 := (cond2_iff f l hs.fst hs.lst).1 hn.2
    have h4 := base_le_self f hs.fst
    have hw : ∀ p : Fin 32, (VecWindow.window rb (k1_off3 f) S32x1.size (hn.1 hn.2)) (ix2 p 0) = rb (ix2 (⟨(base f).toNat + p.val, by omega⟩ : Fin 512) 0) :=
      fun p => window_col (base f).toNat rb _ p (by omega)
    have hq : ∀ p : Fin 32, b (ix3 0 0 r) = BitVec.ofNat 32 p.val + base f ↔ (base f).toNat + p.val = s.val := by
      intro p
      rw [hid]
      constructor
      · intro g
        have g' := congrArg BitVec.toNat g
        rw [BitVec.toNat_add, BitVec.toNat_ofNat, BitVec.toNat_ofNat] at g'; omega
      · intro g
        apply BitVec.eq_of_toNat_eq
        rw [BitVec.toNat_add, BitVec.toNat_ofNat, BitVec.toNat_ofNat]; omega
    rw [Finset.sum_eq_single (⟨s.val - (base f).toNat, by omega⟩ : Fin 32)]
    · rw [if_pos ((hq _).2 (by show (base f).toNat + (s.val - (base f).toNat) = s.val; omega)), hw]
      exact congrArg (fun z : Fin 512 => rb (ix2 z 0)) (Fin.ext (by show (base f).toNat + (s.val - (base f).toNat) = s.val; omega))
    · intro p _ hp
      rw [if_neg]
      intro g
      exact hp (Fin.ext (by have := (hq p).1 g; show p.val = s.val - (base f).toNat; omega))
    · intro g; exact absurd (Finset.mem_univ _) g
  · rw [dif_neg hn]
    refine (k1pay7_apply b e _ r).trans (congrArg (e (ix3 0 0 r) * ·) ?_)
    rw [Finset.sum_eq_single s]
    · rw [hid, if_pos rfl]
    · intro p _ hp
      rw [hid, if_neg]
      intro g
      have g' := congrArg BitVec.toNat g
      rw [BitVec.toNat_ofNat, BitVec.toNat_ofNat] at g'
      exact hp (Fin.ext (by omega))
    · intro g; exact absurd (Finset.mem_univ _) g

/-- A block put into an array of five blocks, read at an entry. -/
theorem put_slab {α : Type} (q : ℕ) (x : S5x1x4000.Idx → α) (w : S1x1x4000.Idx → α) (j : Fin 5) (r : Fin 4000) :
    VecWindow.put x ![q, 0, 0] S1x1x4000.size w (ix3 j 0 r) = if j.val = q then w (ix3 0 0 r) else x (ix3 j 0 r) := by
  unfold VecWindow.put
  by_cases h : j.val = q
  · rw [if_pos h, dif_pos]
    · refine congrArg w (funext fun i => Fin.ext ?_)
      fin_cases i
      · show j.val - q = 0; omega
      · rfl
      · show r.val - 0 = r.val; omega
    · intro i; fin_cases i
      · exact ⟨by show q ≤ j.val; omega, by show j.val < q + 1; omega⟩
      · exact ⟨Nat.zero_le _, by show 0 < 0 + 1; omega⟩
      · exact ⟨Nat.zero_le _, by show r.val < 0 + 4000; omega⟩
  · rw [if_neg h, dif_neg]
    intro g
    have g0 : q ≤ j.val ∧ j.val < q + 1 := g (0 : Fin 3)
    exact h (by omega)
/-- A block of an array of five blocks read at an entry. -/
theorem window_slab {α : Type} (q : Fin 5) (x : S5x1x4000.Idx → α) (inb) (r : Fin 4000) :
    VecWindow.window x ![q.val, 0, 0] S1x1x4000.size inb (ix3 0 0 r) = x (ix3 q 0 r) := by
  refine congrArg x (funext fun i => Fin.ext ?_)
  fin_cases i
  · rfl
  · rfl
  · show 0 + 1 * r.val = r.val; omega

end Cert.KernelIdeal.Hand

end
-- ==== Proof.Out1.lean ====
module

public import proofs.«01_k».proof.Proof.Out0
public import proofs.«01_k».proof.Proof.Pay1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The arrays the second region leaves, and the program's two results. -/

variable (m : (ℓ : Loc nD τ sig) → Buf (Elt Ideal) ℓ) (c : Dev nD)

/-! ## The tables the second region reads -/

/-- A segment's gate denominator. -/
def d1 (s : Fin 512) : Ideal .f32 := ∑ i : Fin 100000, hit (nid m c i) s * e1 m c i
/-- A segment's attention denominator. -/
def d2 (s : Fin 512) : Ideal .f32 := ∑ i : Fin 100000, hit (nid m c i) s * e2 m c i
/-- A segment's accumulated features, before the division. -/
def num (s k : Fin 512) : Ideal .f32 := ∑ i : Fin 100000, hit (nid m c i) s * e1 m c i * xt m c i k

theorem acc_at (n : ℕ) (h : n < cfg0.N) (e : n = 24) (hr : InRange m) (ho : Ordered m) (s k : Fin 512) :
    acc0 (B1 m) c n h (ix3 0 s k) = num m c s k := by subst e; exact acc0_last c hr ho s k h
theorem den_at0 (n : ℕ) (h : n < cfg0.N) (e : n = 24) (hr : InRange m) (ho : Ordered m) (s : Fin 512) :
    den0 (B1 m) c n h (ix3 0 s 0) = d1 m c s := by subst e; exact den0_last0 c hr ho s h
theorem den_at1 (n : ℕ) (h : n < cfg0.N) (e : n = 24) (hr : InRange m) (ho : Ordered m) (s : Fin 512) :
    den0 (B1 m) c n h (ix3 0 s 1) = d2 m c s := by subst e; exact den0_last1 c hr ho s h

variable (hr : InRange m) (ho : Ordered m)
include hr ho

theorem emb1_apply (s k : Fin 512) : emb1 (B2 m) c (ix2 s k) = num m c s k * Ideal.div 1 (d1 m c s + eps) := by
  refine (k1pay2_apply _ _ s k).trans ?_
  rw [acc1_apply, den1_apply, B2_acc, B2_den, acc_at m c _ _ t0_24_val hr ho, den_at0 m c _ _ t0_24_val hr ho]
theorem rb1_apply (s : Fin 512) : rb1 (B2 m) c (ix2 s 0) = Ideal.div 1 (d2 m c s + eps) := by
  refine (k1pay3_apply _ s).trans ?_
  rw [den1_apply, B2_den, den_at1 m c _ _ t0_24_val hr ho]

/-! ## The weights of a point -/

abbrev nb (t : Fin cfg1.N) (q : Fin 5) : Fin 25 := ⟨t.val * 5 + q.val, by have : t.val < 5 := t.isLt; omega⟩
omit hr ho in
theorem e21_eq (t : Fin cfg1.N) (q : Fin 5) (r : Fin 4000) : e21 (B2 m) c t (ix3 q 0 r) = e2 m c (nd (nb t q) r) :=
  (e21_apply _ c t q r).trans (congrFun (B2_e2 m c) _)
omit hr ho in
theorem b1_eq (t : Fin cfg1.N) (q : Fin 5) (r : Fin 4000) : b1 (B2 m) c t (ix3 q 0 r) = nid m c (nd (nb t q) r) :=
  (b1_apply _ c t q r).trans ((congrFun (B2_v1 m c) _).trans (v1_apply m c (nb t q) r))

/-- A node's segment as an index. -/
def sg (i : Fin 100000) : Fin 512 := ⟨(nid m c i).toNat, hr c i⟩
omit ho in
theorem nid_sg (i : Fin 100000) : nid m c i = BitVec.ofNat 32 (sg m c hr i).val := by
  apply BitVec.eq_of_toNat_eq
  rw [BitVec.toNat_ofNat]; have := (nid m c i).isLt; show _ = (nid m c i).toNat % _; omega

/-- A node's weight: its exponential times the reciprocal of its segment's denominator. -/
def wt (i : Fin 100000) : Ideal .f32 := e2 m c i * Ideal.div 1 (d2 m c (sg m c hr i) + eps)

theorem row1 (t : Fin cfg1.N) (q : Fin 5) (r : Fin 4000) (o1 o2 : Fin 2 → ℕ) (i1) (i2) (ib)
    (h1 : o1 0 = t.val * 5 + q.val ∧ o1 1 = 0) (h2 : o2 0 = t.val * 5 + q.val ∧ o2 1 = 1) :
    attRow (limWord (lim1 (B2 m) c t) o1 i1) (limWord (lim1 (B2 m) c t) o2 i2)
      (VecWindow.window (b1 (B2 m) c t) ![q.val, 0, 0] S1x1x4000.size ib)
      (VecWindow.window (e21 (B2 m) c t) ![q.val, 0, 0] S1x1x4000.size ib) (rb1 (B2 m) c) (ix3 0 0 r)
    = wt m c hr (nd (nb t q) r) := by
  rw [lim1_word (B2 m) c t o1 i1 q 0 h1, lim1_word (B2 m) c t o2 i2 q 1 h2]
  have w1 : B2 m c main_v8 (ix2 (nb t q) 0) = nid m c (nd (nb t q) 0) := (congrFun (B2_v8 m c) _).trans (v8_first m c (nb t q))
  have w2 : B2 m c main_v8 (ix2 (nb t q) 1) = nid m c (nd (nb t q) ⟨3999, by decide⟩) := (congrFun (B2_v8 m c) _).trans (v8_last m c (nb t q))
  have hb : ∀ r, (VecWindow.window (b1 (B2 m) c t) ![q.val, 0, 0] S1x1x4000.size ib) (ix3 0 0 r) = nid m c (nd (nb t q) r) :=
    fun r => (window_slab q _ ib r).trans (b1_eq m c t q r)
  have hs : Sorted (B2 m c main_v8 (ix2 (nb t q) 0)) (B2 m c main_v8 (ix2 (nb t q) 1))
      (VecWindow.window (b1 (B2 m) c t) ![q.val, 0, 0] S1x1x4000.size ib) := by
    refine ⟨?_, ?_, fun r => ?_, fun r => ?_⟩
    · rw [w1]; exact hr c _
    · rw [w2]; exact hr c _
    · rw [w1, hb]; exact ho c _ _ (by show _ + 0 ≤ _ + r.val; omega)
    · rw [w2, hb]; exact ho c _ _ (by show _ + r.val ≤ _ + 3999; omega)
  refine (attRow_apply _ hs _ r (sg m c hr (nd (nb t q) r)) ((hb r).trans (nid_sg m c hr _))).trans ?_
  rw [window_slab, e21_eq, rb1_apply m c hr ho]; rfl

theorem w1_apply (t : Fin cfg1.N) (q : Fin 5) (r : Fin 4000) : w1 (B2 m) c t (ix3 q 0 r) = wt m c hr (nd (nb t q) r) := by
  obtain ⟨a1, a2, a4, a5, a7, a8, a10, a11, a13, a14⟩ := off1 t
  have h0 := row1 m c hr ho t 0 r _ _ (k1_off1_inb _) (k1_off2_inb _) inb_S5x1x4000_S1x1x4000_0_0_0 a1 a2
  have h1 := row1 m c hr ho t 1 r _ _ (k1_off4_inb _) (k1_off5_inb _) inb_S5x1x4000_S1x1x4000_1_0_0 a4 a5
  have h2 := row1 m c hr ho t 2 r _ _ (k1_off7_inb _) (k1_off8_inb _) inb_S5x1x4000_S1x1x4000_2_0_0 a7 a8
  have h3 := row1 m c hr ho t 3 r _ _ (k1_off10_inb _) (k1_off11_inb _) inb_S5x1x4000_S1x1x4000_3_0_0 a10 a11
  have h4 := row1 m c hr ho t 4 r _ _ (k1_off13_inb _) (k1_off14_inb _) inb_S5x1x4000_S1x1x4000_4_0_0 a13 a14
  show att5 _ _ _ _ _ _ _ = _
  unfold att5
  rw [put_slab 4]
  by_cases g4 : q.val = 4
  · rw [if_pos g4, show q = 4 from Fin.ext g4]; exact h4
  rw [if_neg g4, put_slab 3]
  by_cases g3 : q.val = 3
  · rw [if_pos g3, show q = 3 from Fin.ext g3]; exact h3
  rw [if_neg g3, put_slab 2]
  by_cases g2 : q.val = 2
  · rw [if_pos g2, show q = 2 from Fin.ext g2]; exact h2
  rw [if_neg g2, put_slab 1]
  by_cases g1 : q.val = 1
  · rw [if_pos g1, show q = 1 from Fin.ext g1]; exact h1
  rw [if_neg g1, put_slab 0]
  have g0 : q.val = 0 := by omega
  rw [if_pos g0, show q = 0 from Fin.ext g0]; exact h0

/-! ## The arrays -/

omit hr ho in
theorem after1_5 (V : Bufs Ideal) (t : Fin cfg1.N) : (dat1 V c).after 5 t = emb1 V c := rfl
omit hr ho in
theorem after1_6 (V : Bufs Ideal) (t : Fin cfg1.N) : (dat1 V c).after 6 t = w1 V c t := rfl
def t1_4' : Fin cfg1.N := ⟨4, by decide⟩

omit hr ho in
theorem arr1_5 : (dat1 (B2 m) c).arrAt 5 cfg1.N = emb1 (B2 m) c := by
  refine (dat1 (B2 m) c).arrAt_eq_of_after_last 5 t1_4' (by decide +kernel) _ fun j => ?_
  rw [after1_5]
  generalize emb1 (B2 m) c = A
  blk_simp
  rfl

/-- Every node's weight, in blocks. -/
def wAll : S25x1x4000.Idx → Ideal .f32 := fun j => wt m c hr (nd (j 0) (j 2))

omit hr ho in
theorem idx1_6 : ∀ t : Fin grid1.N, win1_6.index t = ![t.val, 0, 0] := by decide +kernel

theorem arr1_6 : (dat1 (B2 m) c).arrAt 6 cfg1.N = wAll m c hr := by
  refine (dat1 (B2 m) c).arrAt_eq_of_covers 6 _ (by decide +kernel) fun t hf y => ?_
  blk_simp
  have hy : y = ix3 (y 0) 0 (y 2) := by
    funext a; fin_cases a
    · rfl
    · exact Subsingleton.elim (α := Fin 1) _ _
    · rfl
  have h1 : (dat1 (B2 m) c).after 6 t y = wt m c hr (nd (nb t (y 0)) (y 2)) := by
    rw [after1_6]
    exact (congrArg (w1 (B2 m) c t) hy).trans (w1_apply m c hr ho t (y 0) (y 2))
  refine h1.trans ?_
  unfold wAll
  refine congrArg (wt m c hr) (Fin.ext ?_)
  have q0 : ((win1_6.blk t).view.emb y 0).val = t.val * 5 + (y 0).val := by
    blk_simp [idx1_6]
  have q2 : ((win1_6.blk t).view.emb y 2).val = (y 2).val := by
    blk_simp [idx1_6]
  show (t.val * 5 + (y 0).val) * 4000 + (y 2).val = ((win1_6.blk t).view.emb y 0).val * 4000 + ((win1_6.blk t).view.emb y 2).val
  rw [q0, q2]

omit hr ho in
theorem W3_emb : W3 m c main_v17_0 = emb1 (B2 m) c :=
  (Pipeline.afterRegion_arr (dat1 (B2 m) c) (W2 m c) launch1.win.arr_inj 5).trans (arr1_5 m c)
theorem W3_wt : W3 m c main_v17_1 = wAll m c hr :=
  (Pipeline.afterRegion_arr (dat1 (B2 m) c) (W2 m c) launch1.win.arr_inj 6).trans (arr1_6 m c hr ho)

/-- The program's first result. -/
theorem result1 (s k : Fin 512) : W4 m c main_v17_0 (ix2 s k) = num m c s k * Ideal.div 1 (d1 m c s + eps) := by
  have h : W4 m c main_v17_0 = W3 m c main_v17_0 := rfl
  rw [h, W3_emb]; exact emb1_apply m c hr ho s k
/-- The program's second result. -/
theorem result2 (i : Fin 100000) : W4 m c main_v18 (ix1 i) = wt m c hr i := by
  have h : W4 m c main_v18 = shapeCast S100000 (W3 m c main_v17_1) shapeCasts_S25x1x4000_S100000 := rfl
  rw [h, W3_wt m c hr ho]
  pointwise [wAll]
  exact congrArg (wt m c hr) (Fin.ext (by show i.val / 4000 * 4000 + i.val % 4000 = i.val; omega))

end Cert.KernelIdeal.Hand

end
-- ==== Proof.Ref0.lean ====
module

public import proofs.«01_k».proof.ReferenceIdeal
public import proofs.«01_k».proof.Proof.Gen.ReferenceIdeal
public import proofs.«01_k».proof.Proof.Gen.ReferenceIdeal.Read
public import Idealize.ShloMosaic.Lib.Pointwise
public import Idealize.ShloMosaic.Lib.Routing.OpsPair
public import Idealize.ShloMosaic.Lib.Routing.OpsSet
public import Idealize.ShloMosaic.Lib.IdealHost

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Routing

/-! What the reference's sums over segments and its reads by segment hold at an entry. -/

section Lands
variable (idx : IVec S100000x1 32)

/-- Where node `i`'s number lands. -/
theorem lands1 (i : Fin 100000) (e : Fin 512) :
    scatter_S512_S100000x1_S100000_n_0_0_1.resultIdx? (ix1 i) idx = some (ix1 e) ↔ (idx (ix2 i 0)).toInt = (e.val : ℤ) := by
  refine (resultIdx?_ix1 (N := 512) scatter_S512_S100000x1_S100000_n_0_0_1 (ix1 i) idx e).trans ?_
  have h1 : scatter_S512_S100000x1_S100000_n_0_0_1.start (ix1 i) idx 0 = (idx (ix2 i 0)).toInt := by
    unfold ScatterDims.start
    rw [dif_pos (by decide)]
    refine congrArg (fun z => (idx z).toInt) (funext fun a => Fin.ext ?_)
    fin_cases a <;> rfl
  have h2 : scatter_S512_S100000x1_S100000_n_0_0_1.window (ix1 i) 0 = 0 := by
    unfold ScatterDims.window
    rw [dif_neg (by decide)]
  rw [h1, h2]; omega

/-- Where entry `q` of node `i`'s row lands. -/
theorem lands2 (i : Fin 100000) (q s k : Fin 512) :
    scatter_S512x512_S100000x1_S100000x512_1_0_0_1.resultIdx? (ix2 i q) idx = some (ix2 s k)
      ↔ (idx (ix2 i 0)).toInt = (s.val : ℤ) ∧ q = k := by
  refine (resultIdx?_ix2 (R := 512) (C := 512) scatter_S512x512_S100000x1_S100000x512_1_0_0_1 (ix2 i q) idx s k).trans ?_
  have h1 : scatter_S512x512_S100000x1_S100000x512_1_0_0_1.start (ix2 i q) idx 0 = (idx (ix2 i 0)).toInt := by
    unfold ScatterDims.start
    rw [dif_pos (by decide)]
    refine congrArg (fun z => (idx z).toInt) (funext fun a => Fin.ext ?_)
    fin_cases a <;> rfl
  have h2 : scatter_S512x512_S100000x1_S100000x512_1_0_0_1.window (ix2 i q) 0 = 0 := by
    unfold ScatterDims.window
    rw [dif_neg (by decide)]
  have h3 : scatter_S512x512_S100000x1_S100000x512_1_0_0_1.start (ix2 i q) idx 1 = 0 := by
    unfold ScatterDims.start
    rw [dif_neg (by decide)]
  have h4 : scatter_S512x512_S100000x1_S100000x512_1_0_0_1.window (ix2 i q) 1 = q.val := by
    unfold ScatterDims.window
    rw [dif_pos (by decide)]; rfl
  rw [h1, h2, h3, h4, Fin.ext_iff]; omega

/-- A sum over segments of one number a node. -/
theorem scatter1_apply (x : S512.Idx → Ideal .f32) (u : S100000.Idx → Ideal .f32) (e : Fin 512) :
    Host.scatterAdd (F := Ideal) (φ := .f32) scatter_S512_S100000x1_S100000_n_0_0_1 x idx u (ix1 e)
      = x (ix1 e) + ∑ i ∈ Finset.univ.filter (fun i : Fin 100000 => (idx (ix2 i 0)).toInt = (e.val : ℤ)), u (ix1 i) := by
  refine congrArg (x (ix1 e) + ·) ?_
  refine Finset.sum_nbij' (fun j => j 0) (fun i => ix1 i) ?_ ?_ ?_ ?_ ?_
  · intro j hj
    have hj2 := (Finset.mem_filter.1 hj).2
    refine Finset.mem_filter.2 ⟨Finset.mem_univ _, (lands1 idx (j 0) e).1 ?_⟩
    exact (congrArg (fun z => scatter_S512_S100000x1_S100000_n_0_0_1.resultIdx? z idx) (eq_ix1 j).symm).trans hj2
  · intro i hi
    exact Finset.mem_filter.2 ⟨Finset.mem_univ _, (lands1 idx i e).2 (Finset.mem_filter.1 hi).2⟩
  · intro j _; exact (eq_ix1 j).symm
  · intro i _; rfl
  · intro j _; exact congrArg u (eq_ix1 j)

/-- A sum over segments of a row a node. -/
theorem scatter2_apply (x : S512x512.Idx → Ideal .f32) (u : S100000x512.Idx → Ideal .f32) (s k : Fin 512) :
    Host.scatterAdd (F := Ideal) (φ := .f32) scatter_S512x512_S100000x1_S100000x512_1_0_0_1 x idx u (ix2 s k)
      = x (ix2 s k) + ∑ i ∈ Finset.univ.filter (fun i : Fin 100000 => (idx (ix2 i 0)).toInt = (s.val : ℤ)), u (ix2 i k) := by
  refine congrArg (x (ix2 s k) + ·) ?_
  refine Finset.sum_nbij' (fun j => j 0) (fun i => ix2 i k) ?_ ?_ ?_ ?_ ?_
  · intro j hj
    have hj2 := (Finset.mem_filter.1 hj).2
    refine Finset.mem_filter.2 ⟨Finset.mem_univ _, ((lands2 idx (j 0) (j 1) s k).1 ?_).1⟩
    exact (congrArg (fun z => scatter_S512x512_S100000x1_S100000x512_1_0_0_1.resultIdx? z idx) (eq_ix2 j).symm).trans hj2
  · intro i hi
    exact Finset.mem_filter.2 ⟨Finset.mem_univ _, (lands2 idx i k s k).2 ⟨(Finset.mem_filter.1 hi).2, rfl⟩⟩
  · intro j hj
    have h := ((lands2 idx (j 0) (j 1) s k).1 ((congrArg (fun z => scatter_S512x512_S100000x1_S100000x512_1_0_0_1.resultIdx? z idx) (eq_ix2 j).symm).trans (Finset.mem_filter.1 hj).2)).2
    exact (congrArg (ix2 (j 0)) h.symm).trans (eq_ix2 j).symm
  · intro i _; rfl
  · intro j hj
    have h := ((lands2 idx (j 0) (j 1) s k).1 ((congrArg (fun z => scatter_S512x512_S100000x1_S100000x512_1_0_0_1.resultIdx? z idx) (eq_ix2 j).symm).trans (Finset.mem_filter.1 hj).2)).2
    exact congrArg u ((eq_ix2 j).trans (congrArg (ix2 (j 0)) h))

/-- A read by segment. -/
theorem gather_apply (x : S512.Idx → Ideal .f32) (i : Fin 100000) (b : Fin 512) (hb : idx (ix2 i 0) = BitVec.ofNat 32 b.val) :
    Host.gather gather_S512_S100000x1_S100000_n_0_n_n_0_1_1 x idx (ix1 i) = x (ix1 b) :=
  gather_take1 (N := 512) (n := 100000) gather_S512_S100000x1_S100000_n_0_n_n_0_1_1 rfl rfl rfl rfl x idx i b hb (by decide)
end Lands

end Cert.ReferenceIdeal.Hand

end
-- ==== Proof.Ref1.lean ====
module

public import proofs.«01_k».proof.Proof.Ref0

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Routing

/-! The reference's features, exponentials and results at an entry. -/

variable (x0 : (⟨S100000x512, .f32⟩ : BufTy).Contents (Elt Ideal)) (x1 : (⟨S100000, .i32⟩ : BufTy).Contents (Elt Ideal))
  (x2 : (⟨S512x256, .f32⟩ : BufTy).Contents (Elt Ideal)) (x3 : (⟨S256, .f32⟩ : BufTy).Contents (Elt Ideal))
  (x4 : (⟨S256x1, .f32⟩ : BufTy).Contents (Elt Ideal)) (x5 : (⟨S1, .f32⟩ : BufTy).Contents (Elt Ideal))
  (x6 : (⟨S512x512, .f32⟩ : BufTy).Contents (Elt Ideal)) (x7 : (⟨S512, .f32⟩ : BufTy).Contents (Elt Ideal))
  (x8 : (⟨S512x512, .f32⟩ : BufTy).Contents (Elt Ideal)) (x9 : (⟨S512, .f32⟩ : BufTy).Contents (Elt Ideal))
  (x10 : (⟨S512x8, .f32⟩ : BufTy).Contents (Elt Ideal)) (x11 : (⟨S8, .f32⟩ : BufTy).Contents (Elt Ideal))

theorem v4_apply (i : Fin 100000) (k : Fin 256) : val_main_v4 (F := Ideal) x0 x2 x3 (ix2 i k)
    = max ((∑ d : Fin 512, x0 (ix2 i d) * x2 (ix2 d k)) + x3 (ix1 k)) 0 := by
  pointwise [val_main_v4, val_main_v3, val_main_v2, val_main_v1, val_main_v0, val_main_call0_v0, val_main_call0_cst]
theorem v10_apply (i : Fin 100000) : val_main_v10 (F := Ideal) x0 x2 x3 x4 x5 (ix1 i)
    = Ideal.exp ((∑ k : Fin 256, val_main_v4 (F := Ideal) x0 x2 x3 (ix2 i k) * x4 (ix2 k 0)) + x5 (ix1 0)) := by
  pointwise [val_main_v10, val_main_v9, val_main_v8, val_main_v7, val_main_v6, val_main_v5]
theorem v28_apply (i : Fin 100000) (k : Fin 512) : val_main_v28 (F := Ideal) x0 x6 x7 (ix2 i k)
    = max ((∑ d : Fin 512, x0 (ix2 i d) * x6 (ix2 d k)) + x7 (ix1 k)) 0 := by
  pointwise [val_main_v28, val_main_v27, val_main_v26, val_main_v25, val_main_v24, val_main_call1_v0, val_main_call1_cst]
theorem v39_apply (i : Fin 100000) (k : Fin 512) : val_main_v39 (F := Ideal) x0 x8 x9 (ix2 i k)
    = max ((∑ d : Fin 512, x0 (ix2 i d) * x8 (ix2 d k)) + x9 (ix1 k)) 0 := by
  pointwise [val_main_v39, val_main_v38, val_main_v37, val_main_v36, val_main_v35, val_main_call2_v0, val_main_call2_cst]
theorem v47_apply (i : Fin 100000) : val_main_v47 (F := Ideal) x0 x8 x9 x10 x11 (ix1 i)
    = Ideal.exp (Ideal.div (∑ j : Fin 8, (∑ k : Fin 512, val_main_v39 (F := Ideal) x0 x8 x9 (ix2 i k) * x10 (ix2 k j) + x11 (ix1 j)))
        (Ideal.ofBits .f32 0x41000000#32)) := by
  pointwise [val_main_v47, val_main_v46, val_main_v45, val_main_v44, val_main_v43, val_main_cst_4, val_main_cst_3, val_main_v42, val_main_v41, val_main_v40]

theorem v12_apply (i : Fin 100000) : val_main_v12 (F := Ideal) x1 (ix2 i 0) = x1 (ix1 i) := by pointwise [val_main_v12]
theorem v33_apply (i : Fin 100000) : val_main_v33 (F := Ideal) x1 (ix2 i 0) = x1 (ix1 i) := by pointwise [val_main_v33]
theorem v49_apply (i : Fin 100000) : val_main_v49 (F := Ideal) x1 (ix2 i 0) = x1 (ix1 i) := by pointwise [val_main_v49]
theorem v11_apply (s : Fin 512) : val_main_v11 (F := Ideal) (ix1 s) = 0 := by pointwise [val_main_v11, val_main_cst]
theorem v48_apply (s : Fin 512) : val_main_v48 (F := Ideal) (ix1 s) = 0 := by pointwise [val_main_v48, val_main_cst_5]
theorem v32_apply (s k : Fin 512) : val_main_v32 (F := Ideal) (ix2 s k) = 0 := by pointwise [val_main_v32, val_main_cst_2]

/-- The nodes of a segment. -/
def nodes (s : Fin 512) : Finset (Fin 100000) := Finset.univ.filter (fun i : Fin 100000 => (x1 (ix1 i)).toInt = (s.val : ℤ))

/-- A segment's gate denominator. -/
theorem v13_apply (s : Fin 512) : val_main_v13 (F := Ideal) x0 x1 x2 x3 x4 x5 (ix1 s)
    = ∑ i ∈ nodes x1 s, val_main_v10 (F := Ideal) x0 x2 x3 x4 x5 (ix1 i) := by
  refine (scatter1_apply (val_main_v12 (F := Ideal) x1) _ _ s).trans ?_
  rw [v11_apply, zero_add]
  exact Finset.sum_congr (Finset.filter_congr fun i _ => by rw [v12_apply]) fun _ _ => rfl
/-- A segment's attention denominator. -/
theorem v50_apply (s : Fin 512) : val_main_v50 (F := Ideal) x0 x1 x8 x9 x10 x11 (ix1 s)
    = ∑ i ∈ nodes x1 s, val_main_v47 (F := Ideal) x0 x8 x9 x10 x11 (ix1 i) := by
  refine (scatter1_apply (val_main_v49 (F := Ideal) x1) _ _ s).trans ?_
  rw [v48_apply, zero_add]
  exact Finset.sum_congr (Finset.filter_congr fun i _ => by rw [v49_apply]) fun _ _ => rfl

/-- A node's segment, when in range, is where its denominator is read. -/
theorem v19_apply (i : Fin 100000) (h : (x1 (ix1 i)).toNat < 512) : val_main_v19 (F := Ideal) x1 (ix2 i 0) = x1 (ix1 i) := by
  pointwise [val_main_v19, val_main_v18, val_main_v17, val_main_v16, val_main_v15, val_main_v14, val_main_c, val_main_c_0]
  exact wrap_of_lt _ _ (by omega)
theorem v56_apply (i : Fin 100000) (h : (x1 (ix1 i)).toNat < 512) : val_main_v56 (F := Ideal) x1 (ix2 i 0) = x1 (ix1 i) := by
  pointwise [val_main_v56, val_main_v55, val_main_v54, val_main_v53, val_main_v52, val_main_v51, val_main_c_6, val_main_c_7]
  exact wrap_of_lt _ _ (by omega)

theorem v20_apply (i : Fin 100000) (b : Fin 512) (h : x1 (ix1 i) = BitVec.ofNat 32 b.val) :
    val_main_v20 (F := Ideal) x0 x1 x2 x3 x4 x5 (ix1 i) = val_main_v13 (F := Ideal) x0 x1 x2 x3 x4 x5 (ix1 b) :=
  gather_apply (val_main_v19 (F := Ideal) x1) _ i b ((v19_apply x1 i (by rw [h, BitVec.toNat_ofNat]; omega)).trans h)
theorem v57_apply (i : Fin 100000) (b : Fin 512) (h : x1 (ix1 i) = BitVec.ofNat 32 b.val) :
    val_main_v57 (F := Ideal) x0 x1 x8 x9 x10 x11 (ix1 i) = val_main_v50 (F := Ideal) x0 x1 x8 x9 x10 x11 (ix1 b) :=
  gather_apply (val_main_v56 (F := Ideal) x1) _ i b ((v56_apply x1 i (by rw [h, BitVec.toNat_ofNat]; omega)).trans h)

theorem v31_apply (i : Fin 100000) (k : Fin 512) : val_main_v31 (F := Ideal) x0 x1 x2 x3 x4 x5 x6 x7 (ix2 i k)
    = Ideal.div (val_main_v10 (F := Ideal) x0 x2 x3 x4 x5 (ix1 i))
        (val_main_v20 (F := Ideal) x0 x1 x2 x3 x4 x5 (ix1 i) + Ideal.ofBits .f32 0x24E69595#32) * val_main_v28 (F := Ideal) x0 x6 x7 (ix2 i k) := by
  pointwise [val_main_v31, val_main_v30, val_main_v29, val_main_v23, val_main_v22, val_main_v21, val_main_cst_1]

/-- The reference's first result: over a segment's nodes, the gate times the transformed features. -/
theorem v34_apply (s k : Fin 512) : val_main_v34 (F := Ideal) x0 x1 x2 x3 x4 x5 x6 x7 (ix2 s k)
    = ∑ i ∈ nodes x1 s, Ideal.div (val_main_v10 (F := Ideal) x0 x2 x3 x4 x5 (ix1 i))
        (val_main_v13 (F := Ideal) x0 x1 x2 x3 x4 x5 (ix1 s) + Ideal.ofBits .f32 0x24E69595#32) * val_main_v28 (F := Ideal) x0 x6 x7 (ix2 i k) := by
  refine (scatter2_apply (val_main_v33 (F := Ideal) x1) _ _ s k).trans ?_
  rw [v32_apply, zero_add]
  refine Finset.sum_congr (Finset.filter_congr fun i _ => by rw [v33_apply]) fun i hi => ?_
  have h := (Finset.mem_filter.1 hi).2
  rw [v31_apply, v20_apply x0 x1 x2 x3 x4 x5 i s]
  apply BitVec.eq_of_toInt_eq
  rw [h, BitVec.toInt_eq_toNat_of_lt] <;> rw [BitVec.toNat_ofNat] <;> have := s.isLt <;> omega
/-- The reference's second result: a node's exponential over its segment's denominator. -/
theorem v60_apply (i : Fin 100000) (b : Fin 512) (h : x1 (ix1 i) = BitVec.ofNat 32 b.val) :
    val_main_v60 (F := Ideal) x0 x1 x8 x9 x10 x11 (ix1 i) = Ideal.div (val_main_v47 (F := Ideal) x0 x8 x9 x10 x11 (ix1 i))
        (val_main_v50 (F := Ideal) x0 x1 x8 x9 x10 x11 (ix1 b) + Ideal.ofBits .f32 0x24E69595#32) := by
  rw [← v57_apply x0 x1 x8 x9 x10 x11 i b h]
  pointwise [val_main_v60, val_main_v59, val_main_v58, val_main_cst_8]

end Cert.ReferenceIdeal.Hand

end
-- ==== Proof.Consts.lean ====
module

public import Idealize.ShloMosaic.Lib.IdealHost
public import Idealize.ShloMosaic.Lib.KernelVsHost

/-! The constants of the two programs, as extended reals. -/

@[expose] public section

namespace Cert.KernelIdeal.Hand
open Idealize.ShloMosaic

/-- The f32 pattern `0x41000000` is eight. -/
theorem ofBits_eight_f32 : Ideal.ofBits .f32 0x41000000#32 = ((8 : ℝ) : EReal) := by
  simp [Ideal.ofBits, Ideal.ieee, -EReal.coe_mul]; norm_num

/-- The f32 pattern `0x7F800000` is plus infinity. -/
theorem ofBits_top_f32 : Ideal.ofBits .f32 0x7F800000#32 = (⊤ : EReal) := by
  simp [Ideal.ofBits, Ideal.ieee]

/-- The f32 pattern `0x24E69595` is positive. -/
theorem ofBits_small_f32 : (0 : EReal) < Ideal.ofBits .f32 0x24E69595#32 := by
  simp only [Ideal.ofBits, Ideal.ieee]
  simp [-EReal.coe_mul]

end Cert.KernelIdeal.Hand
-- ==== Proof.Scaling.lean ====
module

public import proofs.«01_k».proof.Proof.Consts

@[expose] public section

noncomputable section

namespace Cert.KernelIdeal.Hand

open Idealize.ShloMosaic

/-! Sums of extended reals times a nonnegative real, and division by a denominator that is positive. -/

/-- A nonnegative real distributes over a sum. -/
theorem mul_sum_real {ι : Type*} (s : Finset ι) (f : ι → EReal) (r : ℝ) (hr : 0 ≤ r) :
    (r : EReal) * ∑ i ∈ s, f i = ∑ i ∈ s, (r : EReal) * f i := by
  classical
  induction s using Finset.induction_on with
  | empty => rw [Finset.sum_empty, Finset.sum_empty, mul_zero]
  | insert a s ha ih =>
    rw [Finset.sum_insert ha, Finset.sum_insert ha,
      EReal.left_distrib_of_nonneg_of_ne_top (EReal.coe_nonneg.2 hr) (EReal.coe_ne_top r), ih]

/-- Dividing by a positive extended real is multiplying by a nonnegative real. -/
theorem div_pos_eq (y : EReal) (h : 0 < y) : ∃ r : ℝ, 0 ≤ r ∧ ∀ x : EReal, Ideal.div x y = x * (r : EReal) := by
  induction y with
  | bot => exact absurd h (by simp)
  | top => exact ⟨0, le_rfl, fun x => by rw [Ideal.div, if_neg h.ne', EReal.inv_top]; rfl⟩
  | coe q =>
    have hq : 0 < q := EReal.coe_pos.1 h
    exact ⟨1 / q, by positivity, fun x => Ideal.div_coe hq.ne' x⟩

/-- The exponential is nonnegative. -/
theorem exp_nonneg (x : EReal) : 0 ≤ Ideal.exp x := by
  induction x with
  | bot => simp
  | top => simp
  | coe r => simpa using (Real.exp_pos r).le

/-- A sum of nonnegative terms plus the small constant is positive. -/
theorem den_pos {ι : Type*} (s : Finset ι) (f : ι → EReal) (h : ∀ i, 0 ≤ f i) :
    0 < (∑ i ∈ s, f i) + Ideal.ofBits .f32 0x24E69595#32 :=
  lt_of_lt_of_le ofBits_small_f32 (le_add_of_nonneg_left (Finset.sum_nonneg fun i _ => h i))

/-- A sum of products of reals is a real. -/
theorem sum_real {ι : Type*} (s : Finset ι) (f g : ι → EReal) (hf : ∀ i, ∃ r : ℝ, f i = (r : EReal)) (hg : ∀ i, ∃ r : ℝ, g i = (r : EReal)) :
    ∃ r : ℝ, ∑ i ∈ s, f i * g i = (r : EReal) := by
  classical
  induction s using Finset.induction_on with
  | empty => exact ⟨0, Finset.sum_empty⟩
  | insert a s ha ih =>
    obtain ⟨r, e⟩ := ih
    obtain ⟨p, hp⟩ := hf a
    obtain ⟨q, hq⟩ := hg a
    exact ⟨p * q + r, by rw [Finset.sum_insert ha, e, hp, hq, EReal.coe_add, EReal.coe_mul]⟩

/-- The maximum of a real and zero is a nonnegative real. -/
theorem relu_real (x : EReal) (h : ∃ r : ℝ, x = (r : EReal)) : ∃ r : ℝ, 0 ≤ r ∧ max x 0 = (r : EReal) := by
  obtain ⟨r, rfl⟩ := h
  exact ⟨max r 0, le_max_right _ _, (EReal.coe_strictMono.monotone.map_max (a := r) (b := 0)).symm⟩

/-- Scaling each column's sum by nonnegative reals and averaging is averaging the columns first. -/
theorem mean_swap {n k : ℕ} (g : Fin n → EReal) (a : Fin n → Fin k → EReal) (y : EReal) (hy : 0 < y)
    (hg : ∀ d, ∃ r : ℝ, 0 ≤ r ∧ g d = (r : EReal)) :
    Ideal.div (∑ j, ∑ d, g d * a d j) y = ∑ d, Ideal.div (∑ j, a d j) y * g d := by
  obtain ⟨q, hq, e⟩ := div_pos_eq y hy
  rw [e, Finset.sum_comm, mul_comm, mul_sum_real _ _ q hq]
  refine Finset.sum_congr rfl fun d _ => ?_
  obtain ⟨r, hr, er⟩ := hg d
  rw [e, er, ← mul_sum_real _ _ r hr, mul_comm, mul_assoc, mul_comm]

end Cert.KernelIdeal.Hand

end
-- ==== Proof.Valid.lean ====
module

public import proofs.«01_k».proof.Proof.Consts
public import proofs.«01_k».proof.Proof.Frames
public import proofs.«01_k».proof.Proof.Gen.Pre_valid

@[expose] public section

set_option maxRecDepth 16384

noncomputable section

namespace Cert.Frames

open Idealize.ShloMosaic Idealize.ShloMosaic.Tactic
open Cert.Pre_valid (S_ S1 S8 S256 S512 S99999 S100000 S100000x512 S256x1 S512x256 S512x512 S512x8)

/-! What the precondition of the value claim says, read at its operands. -/

/-- A comparison for equality that holds. -/
theorem eq_of_oeq (x y : Ideal .f32) (h : Ideal.cmp .oeq x y = 1#1) : x = y := by
  by_contra hne
  simp [Ideal.cmp, hne] at h
/-- A comparison "less" that holds. -/
theorem lt_of_olt (x y : Ideal .f32) (h : Ideal.cmp .olt x y = 1#1) : (show EReal from x) < y := by
  by_contra hne
  simp only [Ideal.cmp, decide_eq_false hne] at h
  exact absurd h (by decide)

/-- An extended real whose absolute value is less than plus infinity is a real. -/
theorem finite_of_abs (x : EReal) (h : max x (-x) < ⊤) : ∃ r : ℝ, x = (r : EReal) := by
  induction x with
  | bot => exact absurd h (by simp)
  | top => exact absurd h (by simp)
  | coe r => exact ⟨r, rfl⟩

/-- What the precondition says of the arguments: the segment numbers in range and ascending, the five biases zero,
the node features and the first attention weights real. -/
structure Valid (x : FVec Ideal S100000x512 .f32) (ids : IVec S100000 32) (b3 : FVec Ideal S256 .f32) (b5 : FVec Ideal S1 .f32)
    (b7 : FVec Ideal S512 .f32) (w8 : FVec Ideal S512x512 .f32) (b9 : FVec Ideal S512 .f32) (b11 : FVec Ideal S8 .f32) : Prop where
  range : ∀ i, (ids i).toNat < 512
  step : ∀ (i : ℕ) (h : i + 1 < 100000), (ids (ix1 (⟨i, by omega⟩ : Fin 100000))).toInt ≤ (ids (ix1 (⟨i + 1, h⟩ : Fin 100000))).toInt
  zero3 : ∀ i, b3 i = (0 : EReal)
  zero5 : ∀ i, b5 i = (0 : EReal)
  zero7 : ∀ i, b7 i = (0 : EReal)
  zero9 : ∀ i, b9 i = (0 : EReal)
  zero11 : ∀ i, b11 i = (0 : EReal)
  real0 : ∀ i, ∃ r : ℝ, x i = (r : EReal)
  real8 : ∀ i, ∃ r : ℝ, w8 i = (r : EReal)

theorem zero_of (x : Ideal .f32) (h : Ideal.cmp .oeq x (Ideal.ofBits .f32 0x00000000#32) = 1#1) : x = (0 : EReal) :=
  (eq_of_oeq _ _ h).trans Ideal.ofBits_zero_f32
theorem real_of (x : Ideal .f32) (h : Ideal.cmp .olt (max (show EReal from x) (-(show EReal from x))) (Ideal.ofBits .f32 0x7F800000#32) = 1#1) :
    ∃ r : ℝ, x = (r : EReal) :=
  finite_of_abs x (by have e := lt_of_olt _ _ h; rwa [Cert.KernelIdeal.Hand.ofBits_top_f32] at e)

theorem valid_of (x ids a2 a3 a4 a5 a6 a7 a8 a9 a10 a11)
    (h : Cert.Pre_valid.fn (F := Ideal) x ids a2 a3 a4 a5 a6 a7 a8 a9 a10 a11 = fun _ => 1#1) : Valid x ids a3 a5 a7 a8 a9 a11 := by
  have e := congrFun h (Shape.Idx.first Cert.Pre_valid.Facts.h_S_)
  dsimp only [Cert.Pre_valid.fn, Cert.Pre_valid.fn_part1, Cert.Pre_valid.fn_part2] at e
  obtain ⟨e, h39⟩ := IntOp.andi_eq_one.1 e
  obtain ⟨e, h34⟩ := IntOp.andi_eq_one.1 e
  obtain ⟨e, h29⟩ := IntOp.andi_eq_one.1 e
  obtain ⟨e, h25⟩ := IntOp.andi_eq_one.1 e
  obtain ⟨e, h21⟩ := IntOp.andi_eq_one.1 e
  obtain ⟨e, h17⟩ := IntOp.andi_eq_one.1 e
  obtain ⟨e, h13⟩ := IntOp.andi_eq_one.1 e
  obtain ⟨h5, h9⟩ := IntOp.andi_eq_one.1 e
  refine ⟨fun i => ?_, fun i hi => ?_, fun i => zero_of _ (Host.reduce_andi_all _ _ _ _ _ h13 i), fun i => zero_of _ (Host.reduce_andi_all _ _ _ _ _ h17 i),
    fun i => zero_of _ (Host.reduce_andi_all _ _ _ _ _ h21 i), fun i => zero_of _ (Host.reduce_andi_all _ _ _ _ _ h25 i),
    fun i => zero_of _ (Host.reduce_andi_all _ _ _ _ _ h29 i), fun i => real_of _ (Host.reduce_andi_all _ _ _ _ _ h34 i),
    fun i => real_of _ (Host.reduce_andi_all _ _ _ _ _ h39 i)⟩
  · obtain ⟨e0, e1⟩ := IntOp.andi_eq_one.1 (Host.reduce_andi_all _ _ _ _ _ h5 i)
    exact toNat_lt _ (IntOp.cmpi_sge.1 e0) (IntOp.cmpi_slt.1 e1)
  · have e1 := IntOp.cmpi_sge.1 (Host.reduce_andi_all _ _ _ _ _ h9 (ix1 (⟨i, by omega⟩ : Fin 99999)))
    have ea : extractStridedSlice S99999 ![0] ids Cert.Pre_valid.Facts.slices_S100000_S99999_0 (ix1 (⟨i, by omega⟩ : Fin 99999)) = ids (ix1 (⟨i, by omega⟩ : Fin 100000)) := by
      pointwise
    have eb : extractStridedSlice S99999 ![1] ids Cert.Pre_valid.Facts.slices_S100000_S99999_1 (ix1 (⟨i, by omega⟩ : Fin 99999)) = ids (ix1 (⟨i + 1, hi⟩ : Fin 100000)) := by
      pointwise
      exact congrArg (fun z : Fin 100000 => ids (ix1 z)) (Fin.ext (Nat.add_comm 1 i))
    rw [← ea, ← eb]
    exact e1

/-- Ascending from each node to the next is ascending. -/
theorem Valid.ordered {x ids b3 b5 b7 w8 b9 b11} (v : Valid x ids b3 b5 b7 w8 b9 b11) (i : ℕ) (hi : i < 100000) :
    ∀ (j : ℕ) (hj : j < 100000), i ≤ j → (ids (ix1 (⟨i, hi⟩ : Fin 100000))).toNat ≤ (ids (ix1 (⟨j, hj⟩ : Fin 100000))).toNat
  | 0, hj, h => by obtain rfl : i = 0 := by omega
                   exact le_rfl
  | j + 1, hj, h => by
    rcases Nat.lt_or_ge j i with h' | h'
    · obtain rfl : i = j + 1 := by omega
      exact le_rfl
    · refine (Valid.ordered v i hi j (by omega) h').trans ?_
      have e := v.step j hj
      have e1 := v.range (ix1 (⟨j, by omega⟩ : Fin 100000))
      have e2 := v.range (ix1 (⟨j + 1, hj⟩ : Fin 100000))
      rw [BitVec.toInt_eq_toNat_of_lt (by omega), BitVec.toInt_eq_toNat_of_lt (by omega)] at e
      omega

end Cert.Frames

end
-- ==== Proof.Equation.lean ====
module

public import proofs.«01_k».proof.Proof.Out1
public import proofs.«01_k».proof.Proof.Ref1
public import proofs.«01_k».proof.Proof.Scaling
public import proofs.«01_k».proof.Proof.Valid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The kernel's quantities are the reference's, and so are the two results, when the precondition holds. -/

variable (m : (ℓ : Loc nD τ sig) → Buf (Elt Ideal) ℓ) (c : Dev nD)

abbrev aGb : S256.Idx → Ideal .f32 := m ((c : Thread nD τ).loc main_arg3)
abbrev aG2b : S1.Idx → Ideal .f32 := m ((c : Thread nD τ).loc main_arg5)
abbrev aNb : S512.Idx → Ideal .f32 := m ((c : Thread nD τ).loc main_arg7)
abbrev aAb : S512.Idx → Ideal .f32 := m ((c : Thread nD τ).loc main_arg9)
abbrev aA2b : S8.Idx → Ideal .f32 := m ((c : Thread nD τ).loc main_arg11)

/-- The precondition of the arguments at one device. -/
abbrev ValidAt : Prop := Cert.Frames.Valid (aX m c) (batch m c) (aGb m c) (aG2b m c) (aNb m c) (aA m c) (aAb m c) (aA2b m c)

abbrev r4 := Cert.ReferenceIdeal.Read.val_main_v4 (F := Ideal) (aX m c) (aG m c) (aGb m c)
abbrev r10 := Cert.ReferenceIdeal.Read.val_main_v10 (F := Ideal) (aX m c) (aG m c) (aGb m c) (aG2 m c) (aG2b m c)
abbrev r28 := Cert.ReferenceIdeal.Read.val_main_v28 (F := Ideal) (aX m c) (aN m c) (aNb m c)
abbrev r39 := Cert.ReferenceIdeal.Read.val_main_v39 (F := Ideal) (aX m c) (aA m c) (aAb m c)
abbrev r47 := Cert.ReferenceIdeal.Read.val_main_v47 (F := Ideal) (aX m c) (aA m c) (aAb m c) (aA2 m c) (aA2b m c)
abbrev r13 := Cert.ReferenceIdeal.Read.val_main_v13 (F := Ideal) (aX m c) (batch m c) (aG m c) (aGb m c) (aG2 m c) (aG2b m c)
abbrev r50 := Cert.ReferenceIdeal.Read.val_main_v50 (F := Ideal) (aX m c) (batch m c) (aA m c) (aAb m c) (aA2 m c) (aA2b m c)
abbrev r34 := Cert.ReferenceIdeal.Read.val_main_v34 (F := Ideal) (aX m c) (batch m c) (aG m c) (aGb m c) (aG2 m c) (aG2b m c) (aN m c) (aNb m c)
abbrev r60 := Cert.ReferenceIdeal.Read.val_main_v60 (F := Ideal) (aX m c) (batch m c) (aA m c) (aAb m c) (aA2 m c) (aA2b m c)

/-- The averaged attention weights: a row's sum over its eight columns, over eight. -/
theorem am_eq (k : Fin 512) : am m c k = Ideal.div (∑ j : Fin 8, aA2 m c (ix2 k j)) (Ideal.ofBits .f32 0x41000000#32) := by
  unfold am; rw [W1_v15]; pointwise

variable {m c} (v : ValidAt m c)
include v

theorem r4_eq (i : Fin 100000) (k : Fin 256) : r4 m c (ix2 i k) = gh m c i k := by
  refine (Cert.ReferenceIdeal.Hand.v4_apply _ _ _ i k).trans ?_
  rw [v.zero3, add_zero]; rfl
theorem r28_eq (i : Fin 100000) (k : Fin 512) : r28 m c (ix2 i k) = xt m c i k := by
  refine (Cert.ReferenceIdeal.Hand.v28_apply _ _ _ i k).trans ?_
  rw [v.zero7, add_zero]; rfl
theorem r39_eq (i : Fin 100000) (k : Fin 512) : r39 m c (ix2 i k) = gs m c i k := by
  refine (Cert.ReferenceIdeal.Hand.v39_apply _ _ _ i k).trans ?_
  rw [v.zero9, add_zero]; rfl
/-- The gate's exponential. -/
theorem r10_eq (i : Fin 100000) : r10 m c (ix1 i) = e1 m c i := by
  refine (Cert.ReferenceIdeal.Hand.v10_apply _ _ _ _ _ i).trans ?_
  rw [v.zero5, add_zero]
  exact congrArg Ideal.exp (Finset.sum_congr rfl fun k _ => (congrArg (· * aG2 m c (ix2 k 0)) (r4_eq v i k)).trans (mul_comm _ _))
theorem gs_real (i : Fin 100000) (k : Fin 512) : ∃ r : ℝ, 0 ≤ r ∧ gs m c i k = (r : EReal) :=
  relu_real _ (sum_real _ _ _ (fun d => v.real0 (ix2 i d)) (fun d => v.real8 (ix2 d k)))
/-- The attention score's exponential: the reference averages eight scores, the kernel averages the weights first. -/
theorem r47_eq (i : Fin 100000) : r47 m c (ix1 i) = e2 m c i := by
  refine (Cert.ReferenceIdeal.Hand.v47_apply _ _ _ _ _ i).trans ?_
  have hin : ∀ j : Fin 8, (∑ k : Fin 512, r39 m c (ix2 i k) * aA2 m c (ix2 k j)) + aA2b m c (ix1 j) = ∑ d : Fin 512, gs m c i d * aA2 m c (ix2 d j) := fun j => by
    rw [v.zero11, add_zero]
    exact Finset.sum_congr rfl fun d _ => congrArg (· * aA2 m c (ix2 d j)) (r39_eq v i d)
  have hpos : (0 : EReal) < Ideal.ofBits .f32 0x41000000#32 := by
    rw [ofBits_eight_f32]; exact EReal.coe_pos.2 (by norm_num)
  unfold e2
  refine congrArg Ideal.exp ?_
  refine (congrArg (Ideal.div · (Ideal.ofBits .f32 0x41000000#32)) (Finset.sum_congr rfl fun j _ => hin j)).trans ?_
  refine (mean_swap (fun d => gs m c i d) (fun d j => aA2 m c (ix2 d j)) _ hpos (gs_real v i)).trans ?_
  exact Finset.sum_congr rfl fun k _ => congrArg (· * gs m c i k) (am_eq m c k).symm

/-- A segment number in range is `s` as a word exactly when it is `s` as a signed number. -/
theorem nid_iff (i : Fin 100000) (s : Fin 512) : (nid m c i).toInt = (s.val : ℤ) ↔ nid m c i = BitVec.ofNat 32 s.val := by
  have h : (nid m c i).toNat < 512 := v.range (ix1 i)
  have hs := s.isLt
  rw [BitVec.toInt_eq_toNat_of_lt (by omega)]
  constructor
  · intro e
    apply BitVec.eq_of_toNat_eq
    rw [BitVec.toNat_ofNat]; omega
  · intro e
    rw [e, BitVec.toNat_ofNat]; omega

/-- A sum over all nodes of the hits is the sum over a segment's nodes. -/
theorem sum_hit (s : Fin 512) (f : Fin 100000 → Ideal .f32) :
    ∑ i : Fin 100000, hit (nid m c i) s * f i = ∑ i ∈ Cert.ReferenceIdeal.Hand.nodes (batch m c) s, f i := by
  refine .trans (Finset.sum_congr rfl fun i _ => ?_) (Finset.sum_filter _ _).symm
  unfold hit
  by_cases e : nid m c i = BitVec.ofNat 32 s.val
  · rw [if_pos e, if_pos ((nid_iff v i s).2 e), one_mul]
  · rw [if_neg e, if_neg (fun h => e ((nid_iff v i s).1 h)), zero_mul]

theorem r13_eq (s : Fin 512) : r13 m c (ix1 s) = d1 m c s := by
  refine (Cert.ReferenceIdeal.Hand.v13_apply _ _ _ _ _ _ s).trans (.trans ?_ (sum_hit v s (e1 m c)).symm)
  exact Finset.sum_congr rfl fun i _ => r10_eq v i
theorem r50_eq (s : Fin 512) : r50 m c (ix1 s) = d2 m c s := by
  refine (Cert.ReferenceIdeal.Hand.v50_apply _ _ _ _ _ _ s).trans (.trans ?_ (sum_hit v s (e2 m c)).symm)
  exact Finset.sum_congr rfl fun i _ => r47_eq v i

theorem d1_pos (s : Fin 512) : (0 : EReal) < d1 m c s + eps :=
  (congrArg (fun z : EReal => 0 < z + eps) (sum_hit v s (e1 m c))).mpr (den_pos _ _ fun i => exp_nonneg _)
theorem d2_pos (s : Fin 512) : (0 : EReal) < d2 m c s + eps :=
  (congrArg (fun z : EReal => 0 < z + eps) (sum_hit v s (e2 m c))).mpr (den_pos _ _ fun i => exp_nonneg _)

/-- The pooled features: dividing each node's term is dividing their sum. -/
theorem pooled_eq (s k : Fin 512) : num m c s k * Ideal.div 1 (d1 m c s + eps) = r34 m c (ix2 s k) := by
  refine .trans ?_ (Cert.ReferenceIdeal.Hand.v34_apply _ _ _ _ _ _ _ _ s k).symm
  obtain ⟨r, hr, e⟩ := div_pos_eq _ (d1_pos v s)
  have hn : num m c s k = ∑ i ∈ Cert.ReferenceIdeal.Hand.nodes (batch m c) s, e1 m c i * xt m c i k := by
    refine .trans ?_ (sum_hit v s fun i => e1 m c i * xt m c i k)
    exact Finset.sum_congr rfl fun i _ => mul_assoc _ _ _
  rw [e, one_mul, hn, mul_comm]
  refine (mul_sum_real _ _ r hr).trans (Finset.sum_congr rfl fun i _ => ?_)
  have h13 := r13_eq v s
  have h10 := r10_eq v i
  have h28 := r28_eq v i k
  refine .trans ?_ (congrArg₂ (HMul.hMul (α := EReal) (β := EReal) (γ := EReal)) (congrArg₂ (fun a b : EReal => Ideal.div a (b + eps)) h10 h13) h28).symm
  show _ = Ideal.div (e1 m c i) (d1 m c s + eps) * xt m c i k
  rw [e, ← mul_assoc]
  exact congrArg (· * xt m c i k) (mul_comm _ _)

/-- A node's weight. -/
theorem weight_eq (i : Fin 100000) (s : Fin 512) (h : nid m c i = BitVec.ofNat 32 s.val) :
    e2 m c i * Ideal.div 1 (d2 m c s + eps) = r60 m c (ix1 i) := by
  refine .trans ?_ (Cert.ReferenceIdeal.Hand.v60_apply _ _ _ _ _ _ i s h).symm
  obtain ⟨r, hr, e⟩ := div_pos_eq _ (d2_pos v s)
  refine .trans ?_ (congrArg₂ (fun a b : EReal => Ideal.div a (b + eps)) (r47_eq v i) (r50_eq v s)).symm
  show _ = Ideal.div (e2 m c i) (d2 m c s + eps)
  rw [e, e, one_mul]

end Cert.KernelIdeal.Hand

end
-- ==== Proof.Algebraic.lean ====
module

public import proofs.«01_k».proof.Proof.Equation
public import proofs.«01_k».proof.Proof.Gen.ReferenceIdeal.Read

@[expose] public section

set_option maxRecDepth 16384

noncomputable section

namespace Cert.ReferenceIdeal.Hand

open Cert.ReferenceIdeal Cert.ReferenceIdeal.Read Idealize.ShloMosaic

/-! Equal arguments give the reference's results equal values. -/

theorem val_main_v34_congr {x0 y0 : (⟨S100000x512, .f32⟩ : BufTy).Contents (Elt Ideal)} {x1 y1 : (⟨S100000, .i32⟩ : BufTy).Contents (Elt Ideal)} {x2 y2 : (⟨S512x256, .f32⟩ : BufTy).Contents (Elt Ideal)} {x3 y3 : (⟨S256, .f32⟩ : BufTy).Contents (Elt Ideal)} {x4 y4 : (⟨S256x1, .f32⟩ : BufTy).Contents (Elt Ideal)} {x5 y5 : (⟨S1, .f32⟩ : BufTy).Contents (Elt Ideal)} {x6 y6 : (⟨S512x512, .f32⟩ : BufTy).Contents (Elt Ideal)} {x7 y7 : (⟨S512, .f32⟩ : BufTy).Contents (Elt Ideal)}
    (h0 : y0 = x0) (h1 : y1 = x1) (h2 : y2 = x2) (h3 : y3 = x3) (h4 : y4 = x4) (h5 : y5 = x5) (h6 : y6 = x6) (h7 : y7 = x7) :
    val_main_v34 (F := Ideal) y0 y1 y2 y3 y4 y5 y6 y7 = val_main_v34 (F := Ideal) x0 x1 x2 x3 x4 x5 x6 x7 := by
  subst h0 h1 h2 h3 h4 h5 h6 h7; rfl
theorem val_main_v60_congr {x0 y0 : (⟨S100000x512, .f32⟩ : BufTy).Contents (Elt Ideal)} {x1 y1 : (⟨S100000, .i32⟩ : BufTy).Contents (Elt Ideal)} {x8 y8 : (⟨S512x512, .f32⟩ : BufTy).Contents (Elt Ideal)} {x9 y9 : (⟨S512, .f32⟩ : BufTy).Contents (Elt Ideal)} {x10 y10 : (⟨S512x8, .f32⟩ : BufTy).Contents (Elt Ideal)} {x11 y11 : (⟨S8, .f32⟩ : BufTy).Contents (Elt Ideal)}
    (h0 : y0 = x0) (h1 : y1 = x1) (h8 : y8 = x8) (h9 : y9 = x9) (h10 : y10 = x10) (h11 : y11 = x11) :
    val_main_v60 (F := Ideal) y0 y1 y8 y9 y10 y11 = val_main_v60 (F := Ideal) x0 x1 x8 x9 x10 x11 := by
  subst h0 h1 h8 h9 h10 h11; rfl

end Cert.ReferenceIdeal.Hand

namespace Cert.Frames

open Cert.KernelIdeal Cert.KernelIdeal.Hand
open Idealize.ShloMosaic Idealize.ShloMosaic.TcCoe Idealize.SL.Sem

/-! The value claim: run from equal arguments, the idealized kernel and the reference end with equal results. -/

section

variable (m : (ℓ : Loc nD τ sig) → Buf (Elt Ideal) ℓ) (h : Cert.Pre_KernelIdeal_valid m)
include h

theorem validAt (c : Dev nD) : ValidAt m c := valid_of _ _ _ _ _ _ _ _ _ _ _ _ (h c)
theorem inRange : InRange m := fun c i => (validAt m h c).range (ix1 i)
theorem ordered : Ordered m := fun c i j hij => (validAt m h c).ordered i.val i.isLt j.val j.isLt hij

/-- The first result, the pooled features, is the reference's. -/
theorem first_eq (c : Dev nD) : W4 m c main_v17_0 = r34 m c := by
  funext x
  obtain ⟨s, k, rfl⟩ : ∃ (s k : Fin 512), x = ix2 s k := ⟨_, _, ValueIdx.eq_ix2 x⟩
  exact (result1 m c (inRange m h) (ordered m h) s k).trans (pooled_eq (validAt m h c) s k)
/-- The second result, the nodes' weights, is the reference's. -/
theorem second_eq (c : Dev nD) : W4 m c main_v18 = r60 m c := by
  funext x
  obtain ⟨i, rfl⟩ : ∃ (i : Fin 100000), x = ix1 i := ⟨_, ValueIdx.eq_ix1 x⟩
  exact (result2 m c (inRange m h) (ordered m h) i).trans (weight_eq (validAt m h c) i _ (nid_sg m c (inRange m h) i))

end

theorem kernelIdeal_valid : Cert.quiescent_KernelIdeal_pre_valid (hKernelIdeal := Cert.KernelIdeal.Gen.facts) (hPre_valid := Cert.Pre_valid.Gen.facts) :=
  fun m g h => frame_main g (inRange m h)

theorem reference_valid : Cert.quiescent_ReferenceIdeal_pre_valid (hReferenceIdeal := Cert.ReferenceIdeal.Gen.facts) (hPre_valid := Cert.Pre_valid.Gen.facts) :=
  fun m g _ => θ_run_mono (Cert.ReferenceIdeal.Value.run m g) fun r h => ⟨fun c => (h c).2.2, sem_eq_zero_of_no_sems (by decide) _⟩

theorem algebraic : Cert.algebraic_KernelIdeal_ReferenceIdeal_pre_valid (hKernelIdeal := Cert.KernelIdeal.Gen.facts)
    (hReferenceIdeal := Cert.ReferenceIdeal.Gen.facts) (hPre_valid := Cert.Pre_valid.Gen.facts) := by
  intro m g m' g' h ha
  refine ⟨fun c => W4 m c main_v17_0, fun c => W4 m c main_v18, ?_, ?_⟩
  · refine θ_run_mono (run_main m g (good0 (inRange m h)) (good1 (inRange m h))) fun r hr c => ?_
    refine ⟨hr.1 c main_v17_0 rfl, hr.1 c main_v18 rfl, ?_, ?_, ?_, ?_, ?_, ?_, ?_, ?_, ?_, ?_, ?_, ?_⟩ <;>
      exact (hr.1 c _ rfl).trans (W4_kept m c _ (by decide) (by decide) (by decide) (by decide))
  · refine θ_run_mono (Cert.ReferenceIdeal.Value.run m' g') fun r hr c => ?_
    obtain ⟨e0, e1, e2, e3, e4, e5, e6, e7, e8, e9, e10, e11⟩ := ha c
    refine ⟨(hr c).1.trans ?_, (hr c).2.1.trans ?_, (hr c).2.2⟩
    · exact (Cert.ReferenceIdeal.Read.val_main_v34_eq _ _ _ _ _ _ _ _).trans ((Cert.ReferenceIdeal.Hand.val_main_v34_congr e0 e1 e2 e3 e4 e5 e6 e7).trans (first_eq m h c).symm)
    · exact (Cert.ReferenceIdeal.Read.val_main_v60_eq _ _ _ _ _ _).trans ((Cert.ReferenceIdeal.Hand.val_main_v60_congr e0 e1 e8 e9 e10 e11).trans (second_eq m h c).symm)

end Cert.Frames

end
-- ==== Proof.lean ====
/- The certificate: the kernel's two programs run and keep their arguments when the segment numbers are in range, the
reference always does, and the idealized kernel and the reference give the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_valid
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Frames.ids_facts,
  Cert.Pre_valid.Gen.facts, Cert.Frames.kernel, Cert.Frames.kernelIdeal, Cert.Frames.kernelIdeal_valid, Cert.Frames.reference,
  Cert.Frames.reference_valid, trivial, Cert.Frames.algebraic⟩

end Cert.Proof

end
